-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S65536x1x32x32 : Shape := ⟨4, ![65536, 1, 32, 32]⟩
abbrev S_ : Shape := ⟨0, ![]⟩

class Facts : Prop where
  bcast_S_S65536x1x32x32 : S_.BroadcastsInDim S65536x1x32x32 (![] : Fin 0 → Fin S65536x1x32x32.rank)

variable [Facts]

def fn {F : FTy → Type} [FloatOps F] (main_arg0 : FVec F S65536x1x32x32 .f32) : IVec S65536x1x32x32 1 :=
  let main_v0 : FVec F S65536x1x32x32 .f32 := Host.absf main_arg0
  let main_cst : FVec F S_ .f32 := constant S_ .f32 0x7F800000#32
  let main_v1 : FVec F S65536x1x32x32 .f32 := broadcastInDim S65536x1x32x32 ![] bcast_S_S65536x1x32x32 main_cst
  let main_v2 : IVec S65536x1x32x32 1 := cmpf .olt main_v0 main_v1
  main_v2
-- ==== Kernel.lean ====
abbrev S65536x1x32x32 : Shape := ⟨4, ![65536, 1, 32, 32]⟩
abbrev S65536x1024 : Shape := ⟨2, ![65536, 1024]⟩
abbrev S256x256x1 : Shape := ⟨3, ![256, 256, 1]⟩
abbrev S256x1024 : Shape := ⟨2, ![256, 1024]⟩
abbrev S1x256x1 : Shape := ⟨3, ![1, 256, 1]⟩
abbrev S256 : Shape := ⟨1, ![256]⟩
abbrev S256x1 : Shape := ⟨2, ![256, 1]⟩

abbrev nBuf : Space → Nat
  | .hbm => 3
  | .vmem => 4
  | .smem => 0
  | _ => 0

abbrev bufTy : (tb : Table) → Fin (tcTables nBuf tb) → BufTy
  | .hbm, ⟨0, _⟩ => ⟨S65536x1x32x32, .f32⟩
  | .hbm, ⟨1, _⟩ => ⟨S65536x1024, .f32⟩
  | .hbm, ⟨2, _⟩ => ⟨S256x256x1, .f32⟩
  | .local _ .vmem, ⟨0, _⟩ => ⟨S256x1024, .f32⟩
  | .local _ .vmem, ⟨1, _⟩ => ⟨S256x1024, .f32⟩
  | .local _ .vmem, ⟨2, _⟩ => ⟨S1x256x1, .f32⟩
  | .local _ .vmem, ⟨3, _⟩ => ⟨S1x256x1, .f32⟩
  | _, _ => ⟨S65536x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S65536x1x32x32 : Shape := ⟨4, ![65536, 1, 32, 32]⟩
abbrev S65536x32x32 : Shape := ⟨3, ![65536, 32, 32]⟩
abbrev S_ : Shape := ⟨0, ![]⟩
abbrev S1x32x32 : Shape := ⟨3, ![1, 32, 32]⟩
abbrev S1x0x32x32 : Shape := ⟨4, ![1, 0, 32, 32]⟩
abbrev S0x32x32 : Shape := ⟨3, ![0, 32, 32]⟩
abbrev S65536x1x32 : Shape := ⟨3, ![65536, 1, 32]⟩
abbrev S65536x1x1x32 : Shape := ⟨4, ![65536, 1, 1, 32]⟩
abbrev S65536x34x32 : Shape := ⟨3, ![65536, 34, 32]⟩
abbrev S65536x34x1 : Shape := ⟨3, ![65536, 34, 1]⟩
abbrev S65536x34x1x1 : Shape := ⟨4, ![65536, 34, 1, 1]⟩
abbrev S65536x34x34 : Shape := ⟨3, ![65536, 34, 34]⟩
abbrev S65536 : Shape := ⟨1, ![65536]⟩
abbrev S65536x1 : Shape := ⟨2, ![65536, 1]⟩
abbrev S65536x36 : Shape := ⟨2, ![65536, 36]⟩
abbrev S65536x1024 : Shape := ⟨2, ![65536, 1024]⟩
abbrev S65536x1024x1 : Shape := ⟨3, ![65536, 1024, 1]⟩
abbrev S65536x1024x2 : Shape := ⟨3, ![65536, 1024, 2]⟩
abbrev S65536x35 : Shape := ⟨2, ![65536, 35]⟩
abbrev S256x256x1 : Shape := ⟨3, ![256, 256, 1]⟩

abbrev nBuf : Space → Nat
  | .hbm => 263
  | .vmem => 0
  | .smem => 0
  | _ => 0

abbrev hbmTy0_0 (i : Nat) : BufTy := match i % 128 with
  | 0 => ⟨S65536x1x32x32, .f32⟩
  | 1 => ⟨S65536x32x32, .f32⟩
  | 2 => ⟨S_, .i32⟩
  | 3 => ⟨S1x32x32, .f32⟩
  | 4 => ⟨S1x0x32x32, .f32⟩
  | 5 => ⟨S0x32x32, .f32⟩
  | 6 => ⟨S1x32x32, .f32⟩
  | 7 => ⟨S1x0x32x32, .f32⟩
  | 8 => ⟨S0x32x32, .f32⟩
  | 9 => ⟨S65536x32x32, .f32⟩
  | 10 => ⟨S65536x1x32, .f32⟩
  | 11 => ⟨S65536x1x1x32, .f32⟩
  | 12 => ⟨S65536x1x32, .f32⟩
  | 13 => ⟨S65536x1x32, .f32⟩
  | 14 => ⟨S65536x1x1x32, .f32⟩
  | 15 => ⟨S65536x1x32, .f32⟩
  | 16 => ⟨S65536x34x32, .f32⟩
  | 17 => ⟨S65536x34x1, .f32⟩
  | 18 => ⟨S65536x34x1x1, .f32⟩
  | 19 => ⟨S65536x34x1, .f32⟩
  | 20 => ⟨S65536x34x1, .f32⟩
  | 21 => ⟨S65536x34x1x1, .f32⟩
  | 22 => ⟨S65536x34x1, .f32⟩
  | 23 => ⟨S65536x34x34, .f32⟩
  | 24 => ⟨S_, .f32⟩
  | 25 => ⟨S65536x32x32, .f32⟩
  | 26 => ⟨S_, .f32⟩
  | 27 => ⟨S65536x32x32, .f32⟩
  | 28 => ⟨S65536x32x32, .f32⟩
  | 29 => ⟨S_, .f32⟩
  | 30 => ⟨S65536x32x32, .f32⟩
  | 31 => ⟨S65536x32x32, .f32⟩
  | 32 => ⟨S65536x32x32, .f32⟩
  | 33 => ⟨S_, .f32⟩
  | 34 => ⟨S65536x32x32, .f32⟩
  | 35 => ⟨S65536x32x32, .f32⟩
  | 36 => ⟨S65536x32x32, .f32⟩
  | 37 => ⟨S65536x32x32, .f32⟩
  | 38 => ⟨S_, .f32⟩
  | 39 => ⟨S65536x32x32, .f32⟩
  | 40 => ⟨S65536x32x32, .f32⟩
  | 41 => ⟨S65536x32x32, .f32⟩
  | 42 => ⟨S_, .f32⟩
  | 43 => ⟨S65536x32x32, .f32⟩
  | 44 => ⟨S65536x32x32, .f32⟩
  | 45 => ⟨S65536x32x32, .f32⟩
  | 46 => ⟨S65536x32x32, .f32⟩
  | 47 => ⟨S_, .f32⟩
  | 48 => ⟨S65536x32x32, .f32⟩
  | 49 => ⟨S65536x32x32, .f32⟩
  | 50 => ⟨S65536x32x32, .f32⟩
  | 51 => ⟨S_, .f32⟩
  | 52 => ⟨S65536x32x32, .f32⟩
  | 53 => ⟨S65536x32x32, .f32⟩
  | 54 => ⟨S65536x32x32, .f32⟩
  | 55 => ⟨S65536x32x32, .f32⟩
  | 56 => ⟨S_, .f32⟩
  | 57 => ⟨S65536x32x32, .f32⟩
  | 58 => ⟨S65536x32x32, .f32⟩
  | 59 => ⟨S65536x32x32, .f32⟩
  | 60 => ⟨S_, .f32⟩
  | 61 => ⟨S65536x32x32, .f32⟩
  | 62 => ⟨S65536x32x32, .f32⟩
  | 63 => ⟨S65536x32x32, .f32⟩
  | 64 => ⟨S65536x32x32, .f32⟩
  | 65 => ⟨S_, .f32⟩
  | 66 => ⟨S65536x32x32, .f32⟩
  | 67 => ⟨S65536x32x32, .f32⟩
  | 68 => ⟨S65536x32x32, .f32⟩
  | 69 => ⟨S_, .f32⟩
  | 70 => ⟨S65536x32x32, .f32⟩
  | 71 => ⟨S65536x32x32, .f32⟩
  | 72 => ⟨S65536x32x32, .f32⟩
  | 73 => ⟨S65536x32x32, .f32⟩
  | 74 => ⟨S_, .f32⟩
  | 75 => ⟨S65536x32x32, .f32⟩
  | 76 => ⟨S65536x32x32, .f32⟩
  | 77 => ⟨S65536x32x32, .f32⟩
  | 78 => ⟨S_, .f32⟩
  | 79 => ⟨S65536x32x32, .f32⟩
  | 80 => ⟨S65536x32x32, .f32⟩
  | 81 => ⟨S65536x32x32, .f32⟩
  | 82 => ⟨S65536x32x32, .f32⟩
  | 83 => ⟨S_, .f32⟩
  | 84 => ⟨S65536x32x32, .f32⟩
  | 85 => ⟨S65536x32x32, .f32⟩
  | 86 => ⟨S65536x32x32, .f32⟩
  | 87 => ⟨S_, .f32⟩
  | 88 => ⟨S65536x32x32, .f32⟩
  | 89 => ⟨S65536x32x32, .f32⟩
  | 90 => ⟨S65536x32x32, .f32⟩
  | 91 => ⟨S65536x32x32, .f32⟩
  | 92 => ⟨S_, .f32⟩
  | 93 => ⟨S65536x32x32, .f32⟩
  | 94 => ⟨S65536x32x32, .f32⟩
  | 95 => ⟨S65536x32x32, .f32⟩
  | 96 => ⟨S_, .f32⟩
  | 97 => ⟨S65536x32x32, .f32⟩
  | 98 => ⟨S65536x32x32, .f32⟩
  | 99 => ⟨S65536x32x32, .f32⟩
  | 100 => ⟨S65536x32x32, .f32⟩
  | 101 => ⟨S_, .f32⟩
  | 102 => ⟨S65536x32x32, .f32⟩
  | 103 => ⟨S65536x32x32, .f32⟩
  | 104 => ⟨S65536x32x32, .f32⟩
  | 105 => ⟨S_, .f32⟩
  | 106 => ⟨S65536x32x32, .f32⟩
  | 107 => ⟨S65536x32x32, .f32⟩
  | 108 => ⟨S65536x32x32, .f32⟩
  | 109 => ⟨S65536x32x32, .f32⟩
  | 110 => ⟨S65536x32x32, .f32⟩
  | 111 => ⟨S65536x32x32, .f32⟩
  | 112 => ⟨S_, .f32⟩
  | 113 => ⟨S65536x32x32, .f32⟩
  | 114 => ⟨S65536x32x32, .f32⟩
  | 115 => ⟨S65536x32x32, .f32⟩
  | 116 => ⟨S_, .f32⟩
  | 117 => ⟨S65536x32x32, .f32⟩
  | 118 => ⟨S65536x32x32, .f32⟩
  | 119 => ⟨S65536x32x32, .f32⟩
  | 120 => ⟨S_, .f32⟩
  | 121 => ⟨S65536x32x32, .f32⟩
  | 122 => ⟨S65536x32x32, .f32⟩
  | 123 => ⟨S_, .f32⟩
  | 124 => ⟨S65536x32x32, .f32⟩
  | 125 => ⟨S65536x32x32, .f32⟩
  | 126 => ⟨S_, .f32⟩
  | 127 => ⟨S65536x32x32, .f32⟩
  | _ => ⟨S65536x1x32x32, .f32⟩

abbrev hbmTy0_1 (i : Nat) : BufTy := match i % 128 with
  | 0 => ⟨S65536x32x32, .f32⟩
  | 1 => ⟨S_, .f32⟩
  | 2 => ⟨S65536x32x32, .f32⟩
  | 3 => ⟨S65536x32x32, .f32⟩
  | 4 => ⟨S65536x32x32, .f32⟩
  | 5 => ⟨S65536x32x32, .f32⟩
  | 6 => ⟨S_, .i32⟩
  | 7 => ⟨S_, .f32⟩
  | 8 => ⟨S65536x32x32, .f32⟩
  | 9 => ⟨S65536x32x32, .f32⟩
  | 10 => ⟨S_, .f32⟩
  | 11 => ⟨S65536x32x32, .f32⟩
  | 12 => ⟨S65536x32x32, .i1⟩
  | 13 => ⟨S_, .f32⟩
  | 14 => ⟨S65536x32x32, .f32⟩
  | 15 => ⟨S65536x32x32, .i1⟩
  | 16 => ⟨S_, .f32⟩
  | 17 => ⟨S_, .i1⟩
  | 18 => ⟨S65536x32x32, .i1⟩
  | 19 => ⟨S65536x32x32, .i1⟩
  | 20 => ⟨S65536x32x32, .i1⟩
  | 21 => ⟨S65536x32x32, .f32⟩
  | 22 => ⟨S65536x32x32, .f32⟩
  | 23 => ⟨S65536x32x32, .f32⟩
  | 24 => ⟨S65536x32x32, .i32⟩
  | 25 => ⟨S_, .i32⟩
  | 26 => ⟨S65536x32x32, .i32⟩
  | 27 => ⟨S65536x32x32, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S65536x32x32, .i32⟩
  | 35 => ⟨S65536x32x32, .i32⟩
  | 36 => ⟨S_, .i32⟩
  | 37 => ⟨S65536x32x32, .i32⟩
  | 38 => ⟨S65536x32x32, .i1⟩
  | 39 => ⟨S_, .i32⟩
  | 40 => ⟨S65536x32x32, .i32⟩
  | 41 => ⟨S65536x32x32, .i1⟩
  | 42 => ⟨S_, .i32⟩
  | 43 => ⟨S_, .i1⟩
  | 44 => ⟨S65536x32x32, .i1⟩
  | 45 => ⟨S65536x32x32, .i1⟩
  | 46 => ⟨S65536x32x32, .i1⟩
  | 47 => ⟨S65536x32x32, .i32⟩
  | 48 => ⟨S65536x32x32, .i32⟩
  | 49 => ⟨S65536x32x32, .i32⟩
  | 50 => ⟨S_, .f32⟩
  | 51 => ⟨S65536x32x32, .f32⟩
  | 52 => ⟨S65536x32x32, .f32⟩
  | 53 => ⟨S65536x32x32, .f32⟩
  | 54 => ⟨S65536x32x32, .f32⟩
  | 55 => ⟨S65536, .i32⟩
  | 56 => ⟨S65536x1, .i32⟩
  | 57 => ⟨S_, .f32⟩
  | 58 => ⟨S65536x36, .f32⟩
  | 59 => ⟨S65536x1024, .i32⟩
  | 60 => ⟨S65536x1024, .f32⟩
  | 61 => ⟨S_, .i32⟩
  | 62 => ⟨S65536x1, .i32⟩
  | 63 => ⟨S65536x1, .i1⟩
  | 64 => ⟨S_, .i32⟩
  | 65 => ⟨S65536x1, .i32⟩
  | 66 => ⟨S65536x1, .i32⟩
  | 67 => ⟨S65536x1, .i32⟩
  | 68 => ⟨S_, .i32⟩
  | 69 => ⟨S65536x1024, .i32⟩
  | 70 => ⟨S65536x1024, .i1⟩
  | 71 => ⟨S_, .i32⟩
  | 72 => ⟨S65536x1024, .i32⟩
  | 73 => ⟨S65536x1024, .i32⟩
  | 74 => ⟨S65536x1024, .i32⟩
  | 75 => ⟨S65536x1024, .i32⟩
  | 76 => ⟨S65536x1024x1, .i32⟩
  | 77 => ⟨S65536x1024x1, .i32⟩
  | 78 => ⟨S65536x1024x2, .i32⟩
  | 79 => ⟨S65536x36, .f32⟩
  | 80 => ⟨S65536x1024, .i32⟩
  | 81 => ⟨S65536x1024, .f32⟩
  | 82 => ⟨S_, .i32⟩
  | 83 => ⟨S65536x1, .i32⟩
  | 84 => ⟨S65536x1, .i1⟩
  | 85 => ⟨S_, .i32⟩
  | 86 => ⟨S65536x1, .i32⟩
  | 87 => ⟨S65536x1, .i32⟩
  | 88 => ⟨S65536x1, .i32⟩
  | 89 => ⟨S_, .i32⟩
  | 90 => ⟨S65536x1024, .i32⟩
  | 91 => ⟨S65536x1024, .i1⟩
  | 92 => ⟨S_, .i32⟩
  | 93 => ⟨S65536x1024, .i32⟩
  | 94 => ⟨S65536x1024, .i32⟩
  | 95 => ⟨S65536x1024, .i32⟩
  | 96 => ⟨S65536x1024, .i32⟩
  | 97 => ⟨S65536x1024x1, .i32⟩
  | 98 => ⟨S65536x1024x1, .i32⟩
  | 99 => ⟨S65536x1024x2, .i32⟩
  | 100 => ⟨S65536x36, .f32⟩
  | 101 => ⟨S_, .f32⟩
  | 102 => ⟨S65536x36, .f32⟩
  | 103 => ⟨S65536x36, .f32⟩
  | 104 => ⟨S65536x1, .f32⟩
  | 105 => ⟨S65536x35, .f32⟩
  | 106 => ⟨S65536x36, .f32⟩
  | 107 => ⟨S_, .f32⟩
  | 108 => ⟨S65536x36, .f32⟩
  | 109 => ⟨S65536x36, .f32⟩
  | 110 => ⟨S_, .f32⟩
  | 111 => ⟨S65536x36, .f32⟩
  | 112 => ⟨S65536x36, .f32⟩
  | 113 => ⟨S65536x36, .f32⟩
  | 114 => ⟨S65536x35, .f32⟩
  | 115 => ⟨S65536x1, .f32⟩
  | 116 => ⟨S65536x36, .f32⟩
  | 117 => ⟨S_, .f32⟩
  | 118 => ⟨S65536x36, .f32⟩
  | 119 => ⟨S65536x36, .f32⟩
  | 120 => ⟨S65536x36, .f32⟩
  | 121 => ⟨S65536x36, .i32⟩
  | 122 => ⟨S_, .f32⟩
  | 123 => ⟨S_, .i32⟩
  | 124 => ⟨S65536, .f32⟩
  | 125 => ⟨S65536, .i32⟩
  | 126 => ⟨S65536, .f32⟩
  | 127 => ⟨S_, .f32⟩
  | _ => ⟨S65536x1x32x32, .f32⟩

abbrev hbmTy0_2 (i : Nat) : BufTy := match i % 128 with
  | 0 => ⟨S65536, .f32⟩
  | 1 => ⟨S65536, .f32⟩
  | 2 => ⟨S_, .f32⟩
  | 3 => ⟨S65536, .f32⟩
  | 4 => ⟨S65536, .f32⟩
  | 5 => ⟨S65536, .f32⟩
  | 6 => ⟨S256x256x1, .f32⟩
  | _ => ⟨S65536x1x32x32, .f32⟩

abbrev hbmTy (i : Nat) : BufTy := match i / 128 with
  | 0 => hbmTy0_0 i
  | 1 => hbmTy0_1 i
  | 2 => hbmTy0_2 i
  | _ => ⟨S65536x1x32x32, .f32⟩

abbrev bufTy : (tb : Table) → Fin (tcTables nBuf tb) → BufTy
  | .hbm, ⟨i, _⟩ => hbmTy i
  | _, _ => ⟨S65536x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17 : Ref sig .tc := ⟨.hbm, 20, rfl⟩
abbrev main_call0_v18 : Ref sig .tc := ⟨.hbm, 21, rfl⟩
abbrev main_call0_v19 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_2 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_4 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_10 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_11 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_12 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_13 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_14 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_15 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_16 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_17 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_18 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_19 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_20 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_21 : Ref sig .tc := ⟨.hbm, 120, rfl⟩
abbrev main_v76 : Ref sig .tc := ⟨.hbm, 121, rfl⟩
abbrev main_v77 : Ref sig .tc := ⟨.hbm, 122, rfl⟩
abbrev main_cst_22 : Ref sig .tc := ⟨.hbm, 123, rfl⟩
abbrev main_v78 : Ref sig .tc := ⟨.hbm, 124, rfl⟩
abbrev main_v79 : Ref sig .tc := ⟨.hbm, 125, rfl⟩
abbrev main_cst_23 : Ref sig .tc := ⟨.hbm, 126, rfl⟩
abbrev main_v80 : Ref sig .tc := ⟨.hbm, 127, rfl⟩
abbrev main_v81 : Ref sig .tc := ⟨.hbm, 128, rfl⟩
abbrev main_cst_24 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_25 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_call1_cst : Ref sig .tc := ⟨.hbm, 138, rfl⟩
abbrev main_call1_v3 : Ref sig .tc := ⟨.hbm, 139, rfl⟩
abbrev main_call1_v4 : Ref sig .tc := ⟨.hbm, 140, rfl⟩
abbrev main_call1_cst_0 : Ref sig .tc := ⟨.hbm, 141, rfl⟩
abbrev main_call1_v5 : Ref sig .tc := ⟨.hbm, 142, rfl⟩
abbrev main_call1_v6 : Ref sig .tc := ⟨.hbm, 143, rfl⟩
abbrev main_call1_cst_1 : Ref sig .tc := ⟨.hbm, 144, rfl⟩
abbrev main_call1_v7 : Ref sig .tc := ⟨.hbm, 145, rfl⟩
abbrev main_call1_v8 : Ref sig .tc := ⟨.hbm, 146, rfl⟩
abbrev main_call1_v9 : Ref sig .tc := ⟨.hbm, 147, rfl⟩
abbrev main_call1_v10 : Ref sig .tc := ⟨.hbm, 148, rfl⟩
abbrev main_call1_v11 : Ref sig .tc := ⟨.hbm, 149, rfl⟩
abbrev main_call1_v12 : Ref sig .tc := ⟨.hbm, 150, rfl⟩
abbrev main_v86 : Ref sig .tc := ⟨.hbm, 151, rfl⟩
abbrev main_v87 : Ref sig .tc := ⟨.hbm, 152, rfl⟩
abbrev main_c_26 : Ref sig .tc := ⟨.hbm, 153, rfl⟩
abbrev main_v88 : Ref sig .tc := ⟨.hbm, 154, rfl⟩
abbrev main_v89 : Ref sig .tc := ⟨.hbm, 155, rfl⟩
abbrev main_c_27 : Ref sig .tc := ⟨.hbm, 156, rfl⟩
abbrev main_call2_v0 : Ref sig .tc := ⟨.hbm, 157, rfl⟩
abbrev main_call2_c : Ref sig .tc := ⟨.hbm, 158, rfl⟩
abbrev main_call2_v1 : Ref sig .tc := ⟨.hbm, 159, rfl⟩
abbrev main_call2_c_0 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_c_1 : Ref sig .tc := ⟨.hbm, 164, rfl⟩
abbrev main_call2_v5 : Ref sig .tc := ⟨.hbm, 165, rfl⟩
abbrev main_call2_v6 : Ref sig .tc := ⟨.hbm, 166, rfl⟩
abbrev main_call2_c_2 : Ref sig .tc := ⟨.hbm, 167, rfl⟩
abbrev main_call2_v7 : Ref sig .tc := ⟨.hbm, 168, rfl⟩
abbrev main_call2_v8 : Ref sig .tc := ⟨.hbm, 169, rfl⟩
abbrev main_call2_c_3 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_v12 : Ref sig .tc := ⟨.hbm, 174, rfl⟩
abbrev main_call2_v13 : Ref sig .tc := ⟨.hbm, 175, rfl⟩
abbrev main_call2_v14 : Ref sig .tc := ⟨.hbm, 176, rfl⟩
abbrev main_v90 : Ref sig .tc := ⟨.hbm, 177, rfl⟩
abbrev main_cst_28 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_cst_29 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_c_30 : Ref sig .tc := ⟨.hbm, 189, rfl⟩
abbrev main_v100 : Ref sig .tc := ⟨.hbm, 190, rfl⟩
abbrev main_v101 : Ref sig .tc := ⟨.hbm, 191, rfl⟩
abbrev main_c_31 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_c_32 : Ref sig .tc := ⟨.hbm, 196, rfl⟩
abbrev main_v105 : Ref sig .tc := ⟨.hbm, 197, rfl⟩
abbrev main_v106 : Ref sig .tc := ⟨.hbm, 198, rfl⟩
abbrev main_c_33 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_c_34 : Ref sig .tc := ⟨.hbm, 210, rfl⟩
abbrev main_v117 : Ref sig .tc := ⟨.hbm, 211, rfl⟩
abbrev main_v118 : Ref sig .tc := ⟨.hbm, 212, rfl⟩
abbrev main_c_35 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_c_36 : Ref sig .tc := ⟨.hbm, 217, rfl⟩
abbrev main_v122 : Ref sig .tc := ⟨.hbm, 218, rfl⟩
abbrev main_v123 : Ref sig .tc := ⟨.hbm, 219, rfl⟩
abbrev main_c_37 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_cst_38 : Ref sig .tc := ⟨.hbm, 229, rfl⟩
abbrev main_v132 : Ref sig .tc := ⟨.hbm, 230, rfl⟩
abbrev main_v133 : Ref sig .tc := ⟨.hbm, 231, rfl⟩
abbrev main_call3_v0 : Ref sig .tc := ⟨.hbm, 232, rfl⟩
abbrev main_call3_v1 : Ref sig .tc := ⟨.hbm, 233, rfl⟩
abbrev main_v134 : Ref sig .tc := ⟨.hbm, 234, rfl⟩
abbrev main_cst_39 : Ref sig .tc := ⟨.hbm, 235, rfl⟩
abbrev main_v135 : Ref sig .tc := ⟨.hbm, 236, rfl⟩
abbrev main_v136 : Ref sig .tc := ⟨.hbm, 237, rfl⟩
abbrev main_cst_40 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_call4_v0 : Ref sig .tc := ⟨.hbm, 242, rfl⟩
abbrev main_call4_v1 : Ref sig .tc := ⟨.hbm, 243, rfl⟩
abbrev main_v140 : Ref sig .tc := ⟨.hbm, 244, rfl⟩
abbrev main_cst_41 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_call5_v0 : Ref sig .tc := ⟨.hbm, 249, rfl⟩
abbrev main_call5_cst : Ref sig .tc := ⟨.hbm, 250, rfl⟩
abbrev main_call5_c : Ref sig .tc := ⟨.hbm, 251, rfl⟩
abbrev main_call5_v1_0 : Ref sig .tc := ⟨.hbm, 252, rfl⟩
abbrev main_v144 : Ref sig .tc := ⟨.hbm, 253, rfl⟩
abbrev main_v145 : Ref sig .tc := ⟨.hbm, 254, rfl⟩
abbrev main_cst_42 : Ref sig .tc := ⟨.hbm, 255, rfl⟩
abbrev main_v146 : Ref sig .tc := ⟨.hbm, 256, rfl⟩
abbrev main_v147 : Ref sig .tc := ⟨.hbm, 257, rfl⟩
abbrev main_cst_43 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩

abbrev nD : Nat := 1
abbrev τ : Topo := Topo.v7x

variable {F : FTy → Type} [FloatOps F]
-- ==== Proof.Body.lean ====
/- The value of the kernel's body, spelt out in a few definitions: what one row of the block computes. -/
module

public import proofs.«01_k».proof.Proof.Gen.KernelIdeal.Value

@[expose] public section

noncomputable section

namespace Cert.Dominant

open Cert.KernelIdeal Cert.KernelIdeal.Gen Idealize.ShloMosaic

variable {F : FTy → Type} [FloatOps F]

/-- The f32 words of the bin numbers 0, 1, …, 35. -/
def word : Fin 36 → BitVec 32 :=
  ![
    0x00000000#32, 0x3F800000#32, 0x40000000#32, 0x40400000#32, 0x40800000#32, 0x40A00000#32,
    0x40C00000#32, 0x40E00000#32, 0x41000000#32, 0x41100000#32, 0x41200000#32, 0x41300000#32,
    0x41400000#32, 0x41500000#32, 0x41600000#32, 0x41700000#32, 0x41800000#32, 0x41880000#32,
    0x41900000#32, 0x41980000#32, 0x41A00000#32, 0x41A80000#32, 0x41B00000#32, 0x41B80000#32,
    0x41C00000#32, 0x41C80000#32, 0x41D00000#32, 0x41D80000#32, 0x41E00000#32, 0x41E80000#32,
    0x41F00000#32, 0x41F80000#32, 0x42000000#32, 0x42040000#32, 0x42080000#32, 0x420C0000#32]

/-- The column of the sums, row by row, of the weights `w` at the places where the bin `b` is the float `c`. -/
def masked (b w : FVec F S256x1024 .f32) (c : BitVec 32) : FVec F S256x1 .f32 :=
  shapeCast S256x1
    (multiReduction .add [1] S256
      (mulf w (sitofp .f32 (extui 32 (cmpf .oeq b (broadcast S256x1024 (Scalar.ofBits .f32 c))) natLt_1_32)))
      0x00000000#32 reduces_S256x1024_S256 (.inl rfl) rfl) shapeCasts_S256_S256x1

/-- Bin `k` of the histogram: the lower weights of the pixels in bin `k`, the upper weights of those in bin `k - 1`. -/
def hist (b w0 w1 : FVec F S256x1024 .f32) (k : Fin 36) : FVec F S256x1 .f32 :=
  addf (masked b w0 (word k)) (masked b w1 (word (k - 1)))

/-- The smoothed histogram at bin `k`. -/
def smooth (h : Fin 36 → FVec F S256x1 .f32) (k : Fin 36) : FVec F S256x1 .f32 :=
  addf (addf (mulf (broadcast S256x1 (Scalar.ofBits .f32 0x3EA8F5C3#32)) (h (k - 1)))
      (mulf (broadcast S256x1 (Scalar.ofBits .f32 0x3EAE147B#32)) (h k)))
    (mulf (broadcast S256x1 (Scalar.ofBits .f32 0x3EA8F5C3#32)) (h (k + 1)))

/-- The histogram's bins as the body names them. -/
def histStages (x : Vec F S256x1024 .f32) : Fin 36 → FVec F S256x1 .f32 :=
  ![
    k0_pay279 x, k0_pay280 x, k0_pay281 x, k0_pay282 x, k0_pay283 x, k0_pay284 x,
    k0_pay285 x, k0_pay286 x, k0_pay287 x, k0_pay288 x, k0_pay289 x, k0_pay290 x,
    k0_pay291 x, k0_pay292 x, k0_pay293 x, k0_pay294 x, k0_pay295 x, k0_pay296 x,
    k0_pay297 x, k0_pay298 x, k0_pay299 x, k0_pay300 x, k0_pay301 x, k0_pay302 x,
    k0_pay303 x, k0_pay304 x, k0_pay305 x, k0_pay306 x, k0_pay307 x, k0_pay308 x,
    k0_pay309 x, k0_pay310 x, k0_pay311 x, k0_pay312 x, k0_pay313 x, k0_pay314 x]

/-- Each of the body's 36 bins is `hist` of its bin numbers and its two weights. -/
theorem histStages_eq (x : Vec F S256x1024 .f32) :
    ∀ k, histStages x k = hist (k0_pay272 x) (k0_pay274 x) (k0_pay273 x) k := by
  intro k; fin_cases k <;> rfl

/-- The smoothed histogram as the body names it. -/
def smoothStages (x : Vec F S256x1024 .f32) : Fin 36 → FVec F S256x1 .f32 :=
  ![
    k0_pay315 x, k0_pay316 x, k0_pay317 x, k0_pay318 x, k0_pay319 x, k0_pay320 x,
    k0_pay321 x, k0_pay322 x, k0_pay323 x, k0_pay324 x, k0_pay325 x, k0_pay326 x,
    k0_pay327 x, k0_pay328 x, k0_pay329 x, k0_pay330 x, k0_pay331 x, k0_pay332 x,
    k0_pay333 x, k0_pay334 x, k0_pay335 x, k0_pay336 x, k0_pay337 x, k0_pay338 x,
    k0_pay339 x, k0_pay340 x, k0_pay341 x, k0_pay342 x, k0_pay343 x,
    k0_pay198 (k0_pay307 x) (k0_pay308 x) (k0_pay309 x),
    k0_pay199 (k0_pay308 x) (k0_pay309 x) (k0_pay310 x),
    k0_pay200 (k0_pay309 x) (k0_pay310 x) (k0_pay311 x),
    k0_pay203 (k0_pay311 x) (k0_pay312 x) (k0_pay201 (k0_pay310 x)) (k0_pay202 (F := F)),
    k0_pay204 (k0_pay311 x) (k0_pay312 x) (k0_pay313 x),
    k0_pay205 (k0_pay312 x) (k0_pay313 x) (k0_pay314 x),
    k0_pay206 (k0_pay279 x) (k0_pay313 x) (k0_pay314 x)]

/-- Each of the body's 36 smoothed bins is `smooth` of its histogram. -/
theorem smoothStages_eq (x : Vec F S256x1024 .f32) :
    ∀ k, smoothStages x k = smooth (histStages x) k := by
  intro k; fin_cases k <;> rfl

/-- The greatest of the columns `s 0, …, s n`, as a running maximum. -/
def best (s : Fin 36 → FVec F S256x1 .f32) : ℕ → FVec F S256x1 .f32
  | 0 => s 0
  | n + 1 => select (cmpf .ogt (s (Fin.ofNat 36 (n + 1))) (best s n)) (s (Fin.ofNat 36 (n + 1))) (best s n)

/-- The number, as a float, of the column the running maximum was taken from: the first of the greatest ones. -/
def bestAt (s : Fin 36 → FVec F S256x1 .f32) : ℕ → FVec F S256x1 .f32
  | 0 => broadcast S256x1 (Scalar.ofBits .f32 0x00000000#32)
  | n + 1 => select (cmpf .ogt (s (Fin.ofNat 36 (n + 1))) (best s n))
      (broadcast S256x1 (Scalar.ofBits .f32 (word (Fin.ofNat 36 (n + 1))))) (bestAt s n)

/-- The angle of a column of bin numbers. -/
def angle (k : FVec F S256x1 .f32) : FVec F S256x1 .f32 :=
  subf (broadcast S256x1 (Scalar.ofBits .f32 0x40490FDB#32)) (mulf k (broadcast S256x1 (Scalar.ofBits .f32 0x3E32B8C2#32)))

/-- The body's first stretch of the running maximum, over columns 0 to 4, -/
theorem best_to4 (s : Fin 36 → FVec F S256x1 .f32) : k0_pay215 (s 0) (s 1) (s 2) (s 3) (s 4) = best s 4 := rfl

/-- its second, over columns 5 to 16, -/
theorem best_to16 (s : Fin 36 → FVec F S256x1 .f32) :
    k0_pay241 (s 5) (s 6) (s 7) (s 8) (s 9) (s 10) (s 11) (s 12) (s 13) (s 14) (s 15) (s 16) (best s 4) = best s 16 := rfl

/-- its third, over columns 17 to 28. -/
theorem best_to28 (s : Fin 36 → FVec F S256x1 .f32) :
    k0_pay267 (s 17) (s 18) (s 19) (s 20) (s 21) (s 22) (s 23) (s 24) (s 25) (s 26) (s 27) (s 28) (best s 16) = best s 28 := rfl

/-- The column numbers kept beside the maximum, over columns 0 to 15, -/
theorem bestAt_to15 (s : Fin 36 → FVec F S256x1 .f32) :
    k0_pay239 (s 5) (s 6) (s 7) (s 8) (s 9) (s 10) (s 11) (s 12) (s 13) (s 14) (s 15) (k0_pay213 (s 0) (s 1) (s 2) (s 3)) (k0_pay214 (s 0) (s 1) (s 2) (s 3) (s 4)) (best s 4)
      (k0_pay216 (F := F)) = bestAt s 15 := rfl

/-- over columns 16 to 27, -/
theorem bestAt_to27 (s : Fin 36 → FVec F S256x1 .f32) :
    k0_pay265 (s 17) (s 18) (s 19) (s 20) (s 21) (s 22) (s 23) (s 24) (s 25) (s 26) (s 27) (bestAt s 15) (k0_pay240 (s 5) (s 6) (s 7) (s 8) (s 9) (s 10) (s 11) (s 12) (s 13) (s 14) (s 15) (s 16) (best s 4)) (best s 16)
      (k0_pay242 (F := F)) = bestAt s 27 := rfl

/-- and over the remaining ones, turned into the angle. -/
theorem angle_to35 (s : Fin 36 → FVec F S256x1 .f32) :
    k0_pay269 (s 29) (s 30) (s 31) (s 32) (s 33) (s 34) (s 35) (bestAt s 27) (k0_pay266 (s 17) (s 18) (s 19) (s 20) (s 21) (s 22) (s 23) (s 24) (s 25) (s 26) (s 27) (s 28) (best s 16)) (best s 28)
      (k0_pay268 (F := F)) = angle (bestAt s 35) := rfl

/-- What the body leaves in the output block: the angle of the first greatest bin of the smoothed histogram. -/
theorem out0_1_eq (x : Vec F S256x1024 .f32) :
    out0_1 x = View.canon [⟨r0_1, k0_pay1 (angle (bestAt (smoothStages x) 35))⟩] := by
  rw [← angle_to35, ← bestAt_to27, ← bestAt_to15, ← best_to28, ← best_to16, ← best_to4]; rfl

end Cert.Dominant

end
-- ==== Proof.PiBound.lean ====
/- `π` lies below the number both programs use in its place. -/
module

public import Mathlib.Analysis.SpecialFunctions.Trigonometric.Basic

@[expose] public section

namespace Cert.Dominant

open Complex in
/-- The first twelve terms of the exponential series at `q i`, real and imaginary parts apart. -/
theorem expSum (q : ℝ) :
    ∑ m ∈ Finset.range 12, ((q : ℂ) * I) ^ m / (m.factorial : ℂ)
      = ((1 - q ^ 2 / 2 + q ^ 4 / 24 - q ^ 6 / 720 + q ^ 8 / 40320 - q ^ 10 / 3628800 : ℝ) : ℂ)
        + ((q - q ^ 3 / 6 + q ^ 5 / 120 - q ^ 7 / 5040 + q ^ 9 / 362880 - q ^ 11 / 39916800 : ℝ) : ℂ) * I := by
  have i2 : I ^ 2 = -1 := I_sq
  have i3 : I ^ 3 = -I := I_pow_three
  have i4 : I ^ 4 = 1 := I_pow_four
  have i5 : I ^ 5 = I := by rw [pow_succ, i4, one_mul]
  have i6 : I ^ 6 = -1 := by rw [show 6 = 4 + 2 from rfl, pow_add, i4, i2, one_mul]
  have i7 : I ^ 7 = -I := by rw [show 7 = 4 + 3 from rfl, pow_add, i4, i3, one_mul]
  have i8 : I ^ 8 = 1 := by rw [show 8 = 4 + 4 from rfl, pow_add, i4, one_mul]
  have i9 : I ^ 9 = I := by rw [pow_succ, i8, one_mul]
  have i10 : I ^ 10 = -1 := by rw [show 10 = 8 + 2 from rfl, pow_add, i8, i2, one_mul]
  have i11 : I ^ 11 = -I := by rw [show 11 = 8 + 3 from rfl, pow_add, i8, i3, one_mul]
  simp only [Finset.sum_range_succ, Finset.sum_range_zero, mul_pow, i2, i3, i4, i5, i6, i7, i8, i9, i10, i11,
    Nat.factorial]
  push_cast
  ring

/-- `π < 13176795 / 4194304`: at a quarter of that number the sine has passed the cosine. -/
theorem pi_lt : Real.pi < 13176795 / 4194304 := by
  obtain ⟨q, hq⟩ : ∃ q : ℝ, q = 13176795 / 16777216 := ⟨_, rfl⟩
  by_contra hlt
  have hle : q ≤ Real.pi / 4 := by rw [hq]; linarith
  have h := Complex.exp_bound (x := (q : ℂ) * Complex.I) (by simp [hq]; norm_num [abs_of_pos]) (n := 12) (by norm_num)
  rw [expSum, Complex.exp_mul_I, ← Complex.ofReal_cos, ← Complex.ofReal_sin] at h
  have hn : ‖(q : ℂ) * Complex.I‖ = q := by simp [hq]
  rw [hn] at h
  have hre := (Complex.abs_re_le_norm _).trans h
  have him := (Complex.abs_im_le_norm _).trans h
  simp only [Complex.sub_re, Complex.add_re, Complex.ofReal_re, Complex.mul_re, Complex.I_re, Complex.I_im, Complex.ofReal_im,
    Complex.sub_im, Complex.add_im, Complex.mul_im] at hre him
  have h1 := (abs_le.mp hre).2
  have h2 := (abs_le.mp him).1
  have hs : Real.sin q ≤ Real.cos q := by
    rw [← Real.cos_pi_div_two_sub]
    have hq0 : 0 ≤ q := by rw [hq]; norm_num
    exact Real.cos_le_cos_of_nonneg_of_le_pi hq0 (by linarith [Real.pi_pos]) (by linarith)
  norm_num [Nat.factorial, hq] at h1 h2
  rw [← hq] at h1 h2
  linarith

end Cert.Dominant
-- ==== Proof.Spec.lean ====
/- The mathematics both programs compute on a finite patch: Sobel gradients, their orientations sorted into 36 bins by
   weight, the smoothed histogram and the first of its greatest bins. Nothing here mentions a program. -/
module

public import Idealize.ShloMosaic.PureOps.Ideal
public import proofs.«01_k».proof.Proof.PiBound

@[expose] public section

noncomputable section

namespace Cert.Dominant

open Idealize.ShloMosaic

/-! ## The literals -/

/-- The real number an f32 word denotes. -/
def lit (w : BitVec 32) : ℝ := (Ideal.ofBits .f32 w).toReal

/-- A word whose exponent is not all ones denotes a real number. -/
theorem ofBits_eq_lit (w : BitVec 32) (h : (w.extractLsb' 23 8).toNat ≠ 255) :
    Ideal.ofBits .f32 w = ((lit w : ℝ) : EReal) := by
  unfold lit Ideal.ofBits Ideal.ieee
  simp only [show (2 ^ 8 - 1 : ℕ) = 255 from rfl, if_neg h]
  split <;> simp only [EReal.toReal_coe]

/-- The rounding of `1e-8` both programs add. -/
def eps : ℝ := lit 0x322BCC77#32

/-- The rounding of `π` both programs use. -/
def piF : ℝ := lit 0x40490FDB#32

/-- The rounded `1e-8` is not negative. -/
theorem eps_nonneg : 0 ≤ eps := by
  simp [eps, lit, Ideal.ofBits, Ideal.ieee]
  rw [← EReal.coe_mul, EReal.toReal_coe]; norm_num

/-- The rounded `π`, as a fraction. -/
theorem piF_eq : piF = 13176795 / 4194304 := by
  simp [piF, lit, Ideal.ofBits, Ideal.ieee]; rw [← EReal.coe_mul, EReal.toReal_coe]; norm_num

/-- The word of `2π` is exactly twice the word of `π`. -/
theorem lit_two_pi : lit 0x40C90FDB#32 = 2 * piF := by
  rw [piF_eq]; simp [lit, Ideal.ofBits, Ideal.ieee]; rw [← EReal.coe_mul, EReal.toReal_coe]; norm_num

/-- The word of `36`. -/
theorem lit_thirtySix : lit 0x42100000#32 = 36 := by
  simp [lit, Ideal.ofBits, Ideal.ieee]; rw [← EReal.coe_mul, EReal.toReal_coe]; norm_num

/-- The word of `2`. -/
theorem lit_two : lit 0x40000000#32 = 2 := by
  simp [lit, Ideal.ofBits, Ideal.ieee]; rw [← EReal.coe_mul, EReal.toReal_coe]; norm_num

/-- The word of `1/8`. -/
theorem lit_eighth : lit 0x3E000000#32 = 1 / 8 := by
  simp [lit, Ideal.ofBits, Ideal.ieee]; rw [← EReal.coe_mul, EReal.toReal_coe]; norm_num

/-- `π` was rounded up. -/
theorem pi_lt_piF : Real.pi < piF := by
  rw [piF_eq]; exact pi_lt

/-- The rounded `π` is positive. -/
theorem piF_pos : 0 < piF := Real.pi_pos.trans pi_lt_piF

/-! ## One patch: gradients, orientation, bins -/

/-- Position `i` of the edge-padded axis, as a position of the patch. -/
def edge (i : ℕ) : ℕ := min (i - 1) 31

/-- The patch, padded by one pixel of its own edge on every side. -/
def padded (p : ℕ → ℕ → ℝ) (a c : ℕ) : ℝ := p (edge a) (edge c)

/-- The horizontal Sobel gradient. -/
def gradX (p : ℕ → ℕ → ℝ) (a c : ℕ) : ℝ :=
  ((padded p a (c + 2) - padded p a c) + 2 * (padded p (a + 1) (c + 2) - padded p (a + 1) c)
    + (padded p (a + 2) (c + 2) - padded p (a + 2) c)) / 8

/-- The vertical Sobel gradient. -/
def gradY (p : ℕ → ℕ → ℝ) (a c : ℕ) : ℝ :=
  ((padded p (a + 2) c - padded p a c) + 2 * (padded p (a + 2) (c + 1) - padded p a (c + 1))
    + (padded p (a + 2) (c + 2) - padded p a (c + 2))) / 8

/-- The magnitude of a gradient. -/
def mag (x y : ℝ) : ℝ := Real.sqrt (x * x + y * y + eps)

/-- The angle of a gradient, in `[-π, π]`. -/
def theta (x y : ℝ) : ℝ :=
  if 0 < x + eps then Real.arctan (y / (x + eps))
  else if x + eps < 0 then
    (if 0 ≤ y then Real.arctan (y / (x + eps)) + Real.pi else Real.arctan (y / (x + eps)) - Real.pi)
  else if 0 < y then Real.pi / 2 else if y < 0 then -(Real.pi / 2) else 0

/-- The angle in units of a bin, moved to positive numbers. -/
def turn (x y : ℝ) : ℝ := 36 * ((theta x y + 2 * piF) + piF) / (2 * piF)

/-- How far a gradient lies past the lower edge of its bin. -/
def frac (x y : ℝ) : ℝ := turn x y - ⌊turn x y⌋

/-- The bin of a gradient. -/
def bin (x y : ℝ) : Fin 36 := Fin.ofNat 36 (⌊turn x y⌋ - 36).toNat

/-- The share of a gradient's magnitude that goes to the bin after its own. -/
def wUp (x y : ℝ) : ℝ := frac x y * mag x y

/-- The share of a gradient's magnitude that stays in its own bin. -/
def wLo (x y : ℝ) : ℝ := (1 - frac x y) * mag x y

/-- The two-argument arctangent of the extended reals, at a gradient, is `theta`. -/
theorem atan2_coe (x y : ℝ) : Ideal.atan2 (y : EReal) ((x + eps : ℝ) : EReal) = ((theta x y : ℝ) : EReal) := by
  rfl

/-- An angle lies between `-π` and `π`. -/
theorem abs_theta_le (x y : ℝ) : -Real.pi ≤ theta x y ∧ theta x y ≤ Real.pi := by
  have hp := Real.pi_pos
  have h1 := Real.arctan_lt_pi_div_two (y / (x + eps))
  have h2 := Real.neg_pi_div_two_lt_arctan (y / (x + eps))
  unfold theta
  split
  · constructor <;> linarith
  · split
    · next hx =>
      split
      · next hy =>
        have : Real.arctan (y / (x + eps)) ≤ 0 := Real.arctan_le_zero.mpr (div_nonpos_of_nonneg_of_nonpos hy hx.le)
        constructor <;> linarith
      · next hy =>
        have : 0 ≤ Real.arctan (y / (x + eps)) := Real.arctan_nonneg.mpr (div_nonneg_of_nonpos (not_le.mp hy).le hx.le)
        constructor <;> linarith
    · split
      · constructor <;> linarith
      · split <;> constructor <;> linarith

/-- The angle in bins lies strictly between 36 and 72, because `π` was rounded up. -/
theorem turn_range (x y : ℝ) : 36 < turn x y ∧ turn x y < 72 := by
  obtain ⟨h1, h2⟩ := abs_theta_le x y
  have h3 := pi_lt_piF
  have h4 := piF_pos
  unfold turn
  constructor
  · rw [lt_div_iff₀ (by linarith)]; linarith
  · rw [div_lt_iff₀ (by linarith)]; linarith

/-- The whole part of the angle in bins is the bin's number, 36 added. -/
theorem floor_turn (x y : ℝ) : ⌊turn x y⌋ = 36 + ((bin x y).val : ℤ) := by
  obtain ⟨h1, h2⟩ := turn_range x y
  have h3 : (36 : ℤ) ≤ ⌊turn x y⌋ := Int.le_floor.mpr (by exact_mod_cast h1.le)
  have h4 : ⌊turn x y⌋ < 72 := Int.floor_lt.mpr (by exact_mod_cast h2)
  unfold bin
  simp only [Fin.ofNat]
  rw [Nat.mod_eq_of_lt (by omega)]
  omega

/-! ## The histogram and its first greatest bin -/

/-- Bin `k` of a patch's histogram, its pixels counted row by row. -/
def histogram (p : ℕ → ℕ → ℝ) (k : Fin 36) : ℝ :=
  (∑ q : Fin 1024, if bin (gradX p (q / 32) (q % 32)) (gradY p (q / 32) (q % 32)) = k
      then wLo (gradX p (q / 32) (q % 32)) (gradY p (q / 32) (q % 32)) else 0)
    + ∑ q : Fin 1024, if bin (gradX p (q / 32) (q % 32)) (gradY p (q / 32) (q % 32)) = k - 1
      then wUp (gradX p (q / 32) (q % 32)) (gradY p (q / 32) (q % 32)) else 0

/-- The histogram smoothed around its circle. -/
def smoothed (h : Fin 36 → ℝ) (k : Fin 36) : ℝ :=
  lit 0x3EA8F5C3#32 * h (k - 1) + lit 0x3EAE147B#32 * h k + lit 0x3EA8F5C3#32 * h (k + 1)

/-- `k` is the first of the places where `s` is greatest. -/
def IsFirstMax (s : Fin 36 → ℝ) (k : Fin 36) : Prop := (∀ i, s i ≤ s k) ∧ ∀ i, s k ≤ s i → k ≤ i

/-- There is only one first greatest place. -/
theorem IsFirstMax.unique {s : Fin 36 → ℝ} {k l : Fin 36} (hk : IsFirstMax s k) (hl : IsFirstMax s l) : k = l :=
  le_antisymm (hk.2 l (hl.1 k)) (hl.2 k (hk.1 l))

/-- Multiplying by a positive number moves no maximum. -/
theorem IsFirstMax.of_scaled {s : Fin 36 → ℝ} {k : Fin 36} {r : ℝ} (hr : 0 < r)
    (h : IsFirstMax (fun i => r * s i) k) : IsFirstMax s k :=
  ⟨fun i => le_of_mul_le_mul_left (h.1 i) hr, fun i hi => h.2 i (mul_le_mul_of_nonneg_left hi hr.le)⟩

/-- The angle of bin `k`. -/
def angleOf (k : Fin 36) : ℝ := piF - (k.val : ℝ) * lit 0x3E32B8C2#32

end Cert.Dominant

end
-- ==== Proof.Scalars.lean ====
/- The scalar operations both programs apply to one gradient, evaluated at real numbers. -/
module

public import proofs.«01_k».proof.Proof.Spec
public import Idealize.ShloMosaic.Lib.Pointwise

@[expose] public section

open Idealize.ShloMosaic

noncomputable section

namespace Cert.Dominant

/-- The word of `-1/8`. -/
theorem lit_neg_eighth : lit 0xBE000000#32 = -(1 / 8) := by
  simp [lit, Ideal.ofBits, Ideal.ieee]; rw [← EReal.coe_mul, EReal.toReal_coe]; norm_num

/-- The word of `1/4`. -/
theorem lit_quarter : lit 0x3E800000#32 = 1 / 4 := by
  simp [lit, Ideal.ofBits, Ideal.ieee]; rw [← EReal.coe_mul, EReal.toReal_coe]; norm_num

/-- The word of `-1/4`. -/
theorem lit_neg_quarter : lit 0xBE800000#32 = -(1 / 4) := by
  simp [lit, Ideal.ofBits, Ideal.ieee]; rw [← EReal.coe_mul, EReal.toReal_coe]; norm_num

/-- The word of `1e-8`, as an extended real. -/
theorem word_eps : Ideal.ofBits .f32 0x322BCC77#32 = ((eps : ℝ) : EReal) := ofBits_eq_lit _ (by decide)

/-- The word of `π`, as an extended real. -/
theorem word_pi : Ideal.ofBits .f32 0x40490FDB#32 = ((piF : ℝ) : EReal) := ofBits_eq_lit _ (by decide)

/-- The word of `2π` is exactly twice the word of `π`. -/
theorem word_two_pi : Ideal.ofBits .f32 0x40C90FDB#32 = ((2 * piF : ℝ) : EReal) := by
  rw [ofBits_eq_lit _ (by decide), lit_two_pi]

/-- The word of `36`, as an extended real. -/
theorem word_thirtySix : Ideal.ofBits .f32 0x42100000#32 = ((36 : ℝ) : EReal) := by
  rw [ofBits_eq_lit _ (by decide), lit_thirtySix]

/-- A finite sum of real numbers, as an extended real. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

/-- The magnitude as both programs compute it. -/
theorem sqrt_eq_mag (x y : ℝ) :
    Ideal.sqrt ((x : EReal) * (x : EReal) + (y : EReal) * (y : EReal) + Ideal.ofBits .f32 0x322BCC77#32) = ((mag x y : ℝ) : EReal) := by
  rw [word_eps, ← EReal.coe_mul, ← EReal.coe_mul, ← EReal.coe_add, ← EReal.coe_add, Ideal.sqrt_coe, if_neg]
  · rfl
  · have := eps_nonneg
    nlinarith [mul_self_nonneg x, mul_self_nonneg y]

/-- The orientation in bins as both programs compute it. -/
theorem div_eq_turn (x y : ℝ) :
    Ideal.div (Ideal.ofBits .f32 0x42100000#32 * (Ideal.atan2 (y : EReal) ((x : EReal) + Ideal.ofBits .f32 0x322BCC77#32)
        + Ideal.ofBits .f32 0x40C90FDB#32 + Ideal.ofBits .f32 0x40490FDB#32)) (Ideal.ofBits .f32 0x40C90FDB#32)
      = ((turn x y : ℝ) : EReal) := by
  have h := piF_pos
  rw [word_eps, word_pi, word_two_pi, word_thirtySix, ← EReal.coe_add, atan2_coe, ← EReal.coe_add, ← EReal.coe_add,
    ← EReal.coe_mul, Ideal.div_coe (by linarith), ← EReal.coe_mul]
  congr 1
  unfold turn
  rw [mul_one_div]

/-- The whole part of the orientation is the bin, 36 added. -/
theorem floor_eq_bin (x y : ℝ) : ((⌊turn x y⌋ : ℤ) : ℝ) = 36 + ((bin x y).val : ℝ) := by
  rw [floor_turn]; push_cast; rfl

/-- A small natural number converted to a signed word. -/
theorem fptosi_nat (n : ℕ) (h : n < 2 ^ 31) : Ideal.fptosi 32 (((n : ℕ) : ℝ) : EReal) = BitVec.ofNat 32 n := by
  rw [Ideal.fptosi, Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) by
      norm_num at h ⊢; omega]
  exact BitVec.ofInt_natCast 32 n

/-- The remainder of the whole part of the orientation by 36 is the bin. -/
theorem remf_eq_bin (x y : ℝ) :
    Ideal.remf ((⌊turn x y⌋ : ℝ) : EReal) ((36 : ℝ) : EReal) = (((bin x y).val : ℝ) : EReal) := by
  have hb : ((bin x y).val : ℝ) < 36 := by exact_mod_cast (bin x y).isLt
  have hb' : (0 : ℝ) ≤ ((bin x y).val : ℝ) := Nat.cast_nonneg _
  have hq : ⌊(36 + ((bin x y).val : ℝ)) / 36⌋ = 1 := by
    rw [Int.floor_eq_iff]
    constructor
    · rw [le_div_iff₀ (by norm_num)]; push_cast; linarith
    · rw [div_lt_iff₀ (by norm_num)]; push_cast; linarith
  rw [floor_eq_bin, Ideal.remf_coe, if_neg (by norm_num), Ideal.truncInt, if_pos (by positivity), hq]
  congr 1
  push_cast
  ring

end Cert.Dominant

end
-- ==== Proof.KernelGrad.lean ====
/- The kernel's gradients, read at a pixel. -/
module

public import proofs.«01_k».proof.Proof.Body
public import proofs.«01_k».proof.Proof.Scalars
public import Idealize.ShloMosaic.Lib.Pointwise

@[expose] public section

open Cert.KernelIdeal Cert.KernelIdeal.Gen Idealize.ShloMosaic

noncomputable section

namespace Cert.Dominant

/-- A selection by a truth value is an `if`. -/
theorem select_ofBool {α : Type} (b : Bool) (u v : α) : Scalar.select (BitVec.ofBool b) u v = if b then u else v := by
  cases b <;> rfl

/-- A lane's number within its row of the patch. -/
theorem lane_and (j : Fin 1024) : IntOp.andi (BitVec.ofNat 32 j.val) 31#32 = BitVec.ofNat 32 (j.val % 32) := by
  apply BitVec.eq_of_toNat_eq
  have h := Nat.and_two_pow_sub_one_eq_mod j.val 5
  have hj : j.val % 2 ^ 32 = j.val := Nat.mod_eq_of_lt (by omega)
  simp only [IntOp.andi, BitVec.toNat_and, BitVec.toNat_ofNat, hj]
  rw [show 31 % 2 ^ 32 = 2 ^ 5 - 1 from rfl, h]
  omega

/-- A lane is the last of its row of the patch when its number there is 31. -/
theorem is_last : ∀ m : Fin 32, IntOp.cmpi .eq (BitVec.ofNat 32 m.val) 31#32 = BitVec.ofBool (decide (m.val = 31)) := by
  decide

/-- A lane is the first of its row of the patch when its number there is 0. -/
theorem is_first : ∀ m : Fin 32, IntOp.cmpi .eq (BitVec.ofNat 32 m.val) 0#32 = BitVec.ofBool (decide (m.val = 0)) := by
  decide

/-- A lane's number, read as a signed word, is itself. -/
theorem toInt_lane (j : ℕ) (h : j < 1024) : (BitVec.ofNat 32 j).toInt = (j : ℤ) := by
  rw [BitVec.toInt_eq_toNat_of_lt] <;> simp [BitVec.toNat_ofNat] <;> omega

/-- A lane lies in the first row of the patch when it is below 32. -/
theorem in_top (j : Fin 1024) : IntOp.cmpi .slt (BitVec.ofNat 32 j.val) 32#32 = BitVec.ofBool (decide (j.val < 32)) := by
  simp only [IntOp.cmpi, BitVec.slt, toInt_lane j.val j.isLt, show (32#32 : BitVec 32).toInt = 32 from rfl]
  congr 2
  norm_cast

/-- A lane lies in the last row of the patch when it is at least 992. -/
theorem in_bottom (j : Fin 1024) : IntOp.cmpi .sge (BitVec.ofNat 32 j.val) 992#32 = BitVec.ofBool (decide (992 ≤ j.val)) := by
  simp only [IntOp.cmpi, BitVec.sle, toInt_lane j.val j.isLt, show (992#32 : BitVec 32).toInt = 992 from rfl]
  congr 2
  norm_cast

/-- Row `r` of the block holds the patch `p`, row by row. -/
def RowIs (x : Vec Ideal S256x1024 .f32) (r : Fin 256) (p : ℕ → ℕ → ℝ) : Prop :=
  ∀ j : Fin 1024, x (ix2 r j) = ((p (j.val / 32) (j.val % 32) : ℝ) : EReal)

variable {x : Vec Ideal S256x1024 .f32} {r : Fin 256} {p : ℕ → ℕ → ℝ}

/-- A pixel itself, in the padded patch. -/
theorem centre_at (hx : RowIs x r p) (j : Fin 1024) :
    k0_pay2 x (ix2 r j) = ((padded p (j.val / 32 + 1) (j.val % 32 + 1) : ℝ) : EReal) := by
  have e : edge (j.val / 32 + 1) = j.val / 32 := by have := j.isLt; simp only [edge]; omega
  have e' : edge (j.val % 32 + 1) = j.val % 32 := by simp only [edge]; omega
  pointwise [k0_pay2]
  rw [hx, padded, e, e']

/-- The pixel to the right, the last column repeated. -/
theorem right_at (hx : RowIs x r p) (j : Fin 1024) :
    k0_pay5 x (ix2 r j) = ((padded p (j.val / 32 + 1) (j.val % 32 + 2) : ℝ) : EReal) := by
  have e : edge (j.val / 32 + 1) = j.val / 32 := by have := j.isLt; simp only [edge]; omega
  pointwise [k0_pay5, k0_pay2]
  rw [lane_and, is_last ⟨j.val % 32, by omega⟩, select_ofBool, hx, hx, padded, e]
  simp only [decide_eq_true_eq]
  split
  · next h => congr 2; simp only [edge]; omega
  · next h => congr 2 <;> (try simp only [edge]) <;> omega

/-- The pixel to the left, the first column repeated. -/
theorem left_at (hx : RowIs x r p) (j : Fin 1024) :
    k0_pay6 x (ix2 r j) = ((padded p (j.val / 32 + 1) (j.val % 32) : ℝ) : EReal) := by
  have e : edge (j.val / 32 + 1) = j.val / 32 := by have := j.isLt; simp only [edge]; omega
  pointwise [k0_pay6, k0_pay2]
  rw [lane_and, is_first ⟨j.val % 32, by omega⟩, select_ofBool, hx, hx, padded, e]
  simp only [decide_eq_true_eq]
  split
  · next h => congr 2; simp only [edge]; omega
  · next h => congr 2 <;> (try simp only [edge]) <;> omega

/-- A function of the padded rows, taken one row up. -/
theorem up_row (f : ℕ → ℕ → ℝ) (hf : f 1 = f 0) (j : Fin 1024) (i : Fin 1024) (hi : i.val = (j.val + 1024 - 32) % 1024) :
    (if j.val < 32 then ((f (j.val / 32 + 1) (j.val % 32) : ℝ) : EReal) else ((f (i.val / 32 + 1) (i.val % 32) : ℝ) : EReal))
      = ((f (j.val / 32) (j.val % 32) : ℝ) : EReal) := by
  split
  · next h => rw [show j.val / 32 = 0 by omega, hf]
  · next h => rw [show i.val / 32 + 1 = j.val / 32 by omega, show i.val % 32 = j.val % 32 by omega]

/-- A function of the padded rows, taken one row down. -/
theorem down_row (f : ℕ → ℕ → ℝ) (hf : f 33 = f 32) (j : Fin 1024) (i : Fin 1024) (hi : i.val = (j.val + 1024 - 992) % 1024) :
    (if 992 ≤ j.val then ((f (j.val / 32 + 1) (j.val % 32) : ℝ) : EReal) else ((f (i.val / 32 + 1) (i.val % 32) : ℝ) : EReal))
      = ((f (j.val / 32 + 2) (j.val % 32) : ℝ) : EReal) := by
  split
  · next h => rw [show j.val / 32 = 31 by omega, hf]
  · next h => rw [show i.val / 32 + 1 = j.val / 32 + 2 by omega, show i.val % 32 = j.val % 32 by omega]

/-- The horizontal differences along one padded row. -/
def across (p : ℕ → ℕ → ℝ) (a c : ℕ) : ℝ := padded p a (c + 2) - padded p a c

/-- The weighted sums along one padded row. -/
def along (p : ℕ → ℕ → ℝ) (a c : ℕ) : ℝ := padded p a c + 2 * padded p a (c + 1) + padded p a (c + 2)

/-- The padding above a patch is its first row. -/
theorem padded_top (p : ℕ → ℕ → ℝ) : padded p 1 = padded p 0 := rfl

/-- The padding below a patch is its last row. -/
theorem padded_bottom (p : ℕ → ℕ → ℝ) : padded p 33 = padded p 32 := rfl

/-- The kernel's horizontal gradient. -/
theorem gradX_at (hx : RowIs x r p) (j : Fin 1024) :
    k0_pay7 x (ix2 r j) = ((gradX p (j.val / 32) (j.val % 32) : ℝ) : EReal) := by
  have hd : ∀ i : Fin 1024, k0_pay5 x (ix2 r i) - k0_pay6 x (ix2 r i)
      = ((across p (i.val / 32 + 1) (i.val % 32) : ℝ) : EReal) := by
    intro i; rw [right_at hx, left_at hx, ← EReal.coe_sub]; rfl
  pointwise [k0_pay7, k0_pay3, k0_pay4]
  rw [in_top, in_bottom, select_ofBool, select_ofBool]
  simp only [hd, decide_eq_true_eq]
  rw [up_row (across p) (by unfold across; rw [padded_top]) j ⟨_, Nat.mod_lt _ (by norm_num)⟩ rfl, down_row (across p) (by unfold across; rw [padded_bottom]) j ⟨_, Nat.mod_lt _ (by norm_num)⟩ rfl,
    ofBits_eq_lit _ (by decide), ofBits_eq_lit _ (by decide), lit_two, lit_eighth]
  simp only [← EReal.coe_mul, ← EReal.coe_add]
  congr 1
  unfold gradX across
  ring

/-- The kernel's vertical gradient, before its scaling. -/
theorem gradY_at (hx : RowIs x r p) (j : Fin 1024) :
    k0_pay8 x (ix2 r j) = ((8 * gradY p (j.val / 32) (j.val % 32) : ℝ) : EReal) := by
  have hd : ∀ i : Fin 1024, k0_pay6 x (ix2 r i) + Ideal.ofBits .f32 0x40000000#32 * k0_pay2 x (ix2 r i) + k0_pay5 x (ix2 r i)
      = ((along p (i.val / 32 + 1) (i.val % 32) : ℝ) : EReal) := by
    intro i
    rw [right_at hx, left_at hx, centre_at hx, ofBits_eq_lit _ (by decide), lit_two, ← EReal.coe_mul, ← EReal.coe_add, ← EReal.coe_add]
    rfl
  pointwise [k0_pay8, k0_pay3, k0_pay4]
  rw [in_top, in_bottom, select_ofBool, select_ofBool]
  simp only [hd, decide_eq_true_eq]
  rw [up_row (along p) (by unfold along; rw [padded_top]) j ⟨_, Nat.mod_lt _ (by norm_num)⟩ rfl, down_row (along p) (by unfold along; rw [padded_bottom]) j ⟨_, Nat.mod_lt _ (by norm_num)⟩ rfl,
    ← EReal.coe_sub]
  congr 1
  unfold gradY along
  ring

/-! ## Bins and weights -/

variable {e : Ideal .f32}

/-- The kernel's vertical gradient. -/
theorem pay9_at (he : e = ((1 / 8 : ℝ) : EReal)) (hx : RowIs x r p) (j : Fin 1024) :
    k0_pay9 (k0_pay8 x) e (ix2 r j) = ((gradY p (j.val / 32) (j.val % 32) : ℝ) : EReal) := by
  pointwise [k0_pay9]
  rw [gradY_at hx, he, ← EReal.coe_mul]
  congr 1
  ring

/-- The kernel's magnitude. -/
theorem pay10_at (he : e = ((1 / 8 : ℝ) : EReal)) (hx : RowIs x r p) (j : Fin 1024) :
    k0_pay10 (k0_pay7 x) (k0_pay8 x) e (ix2 r j)
      = ((mag (gradX p (j.val / 32) (j.val % 32)) (gradY p (j.val / 32) (j.val % 32)) : ℝ) : EReal) := by
  pointwise [k0_pay10]
  rw [gradX_at hx, pay9_at he hx]
  exact sqrt_eq_mag _ _

/-- The kernel's orientation in bins. -/
theorem pay11_at (he : e = ((1 / 8 : ℝ) : EReal)) (hx : RowIs x r p) (j : Fin 1024) :
    k0_pay11 (k0_pay7 x) (k0_pay8 x) e (ix2 r j)
      = ((turn (gradX p (j.val / 32) (j.val % 32)) (gradY p (j.val / 32) (j.val % 32)) : ℝ) : EReal) := by
  pointwise [k0_pay11]
  rw [gradX_at hx, pay9_at he hx]
  exact div_eq_turn _ _

/-- The whole part of the kernel's orientation in bins. -/
theorem pay12_at (he : e = ((1 / 8 : ℝ) : EReal)) (hx : RowIs x r p) (j : Fin 1024) :
    k0_pay12 (k0_pay7 x) (k0_pay8 x) e (ix2 r j)
      = ((⌊turn (gradX p (j.val / 32) (j.val % 32)) (gradY p (j.val / 32) (j.val % 32))⌋ : ℝ) : EReal) := by
  pointwise [k0_pay12]
  rw [pay11_at he hx]
  rfl

/-- The kernel's bin, as a float. -/
theorem bin_at (he : e = ((1 / 8 : ℝ) : EReal)) (hx : RowIs x r p) (j : Fin 1024) :
    k0_pay13 (k0_pay7 x) (k0_pay8 x) e (ix2 r j)
      = (((bin (gradX p (j.val / 32) (j.val % 32)) (gradY p (j.val / 32) (j.val % 32))).val : ℝ) : EReal) := by
  pointwise [k0_pay13]
  rw [pay12_at he hx, word_thirtySix, floor_eq_bin]
  have hb : ((bin (gradX p (j.val / 32) (j.val % 32)) (gradY p (j.val / 32) (j.val % 32))).val : ℝ) < 36 := by
    exact_mod_cast (bin _ _).isLt
  rw [← EReal.coe_sub, add_sub_cancel_left, if_neg]
  rw [EReal.coe_le_coe_iff]
  exact not_le.mpr hb

/-- The kernel's upper weight. -/
theorem wUp_at (he : e = ((1 / 8 : ℝ) : EReal)) (hx : RowIs x r p) (j : Fin 1024) :
    k0_pay14 (k0_pay7 x) (k0_pay8 x) e (ix2 r j)
      = ((wUp (gradX p (j.val / 32) (j.val % 32)) (gradY p (j.val / 32) (j.val % 32)) : ℝ) : EReal) := by
  pointwise [k0_pay14]
  rw [pay10_at he hx, pay11_at he hx, pay12_at he hx, ← EReal.coe_sub, ← EReal.coe_mul]
  rfl

/-- The kernel's lower weight. -/
theorem wLo_at (he : e = ((1 / 8 : ℝ) : EReal)) (hx : RowIs x r p) (j : Fin 1024) :
    k0_pay15 (k0_pay7 x) (k0_pay8 x) e (ix2 r j)
      = ((wLo (gradX p (j.val / 32) (j.val % 32)) (gradY p (j.val / 32) (j.val % 32)) : ℝ) : EReal) := by
  pointwise [k0_pay15]
  rw [pay10_at he hx, wUp_at he hx, ← EReal.coe_sub]
  congr 1
  unfold wLo wUp
  ring

end Cert.Dominant

end
-- ==== Proof.KernelHist.lean ====
/- The kernel's histogram, its smoothing and the search for the first greatest bin, read at one row of the block. -/
module

public import proofs.«01_k».proof.Proof.KernelGrad

@[expose] public section

open Cert.KernelIdeal Cert.KernelIdeal.Gen Idealize.ShloMosaic

noncomputable section

namespace Cert.Dominant

/-- The words of the bin numbers denote the bin numbers. -/
theorem word_eq (k : Fin 36) : Ideal.ofBits .f32 (word k) = ((k.val : ℝ) : EReal) := by
  have h : lit (word k) = k.val := by
    fin_cases k <;> simp [word, lit, Ideal.ofBits, Ideal.ieee] <;> rw [← EReal.coe_mul, EReal.toReal_coe] <;> norm_num
  rw [← h]
  clear h
  exact ofBits_eq_lit _ (by revert k; decide)

variable {r : Fin 256}

/-- One masked column: the weights of the places in bin `k`, summed. -/
theorem masked_at {b w : FVec Ideal S256x1024 .f32} {B : Fin 1024 → Fin 36} {W : Fin 1024 → ℝ}
    (hb : ∀ j, b (ix2 r j) = (((B j).val : ℝ) : EReal)) (hw : ∀ j, w (ix2 r j) = ((W j : ℝ) : EReal)) (k : Fin 36) :
    masked b w (word k) (ix2 r 0) = ((∑ j, if B j = k then W j else 0 : ℝ) : EReal) := by
  generalize hc : word k = c
  have hc' : Ideal.ofBits .f32 c = ((k.val : ℝ) : EReal) := by rw [← hc, word_eq]
  have hs : ∀ z : Bool, (FloatOps.sitofp .f32 (BitVec.setWidth 32 (BitVec.ofBool z)) : Ideal .f32) = ((if z then 1 else 0 : ℝ) : EReal) := by
    intro z
    cases z
    · show (((0#32 : BitVec 32).toInt : ℝ) : EReal) = _
      simp
    · show (((1#32 : BitVec 32).toInt : ℝ) : EReal) = _
      simp
  pointwise [masked]
  rw [coe_sum]
  refine Finset.sum_congr rfl fun j _ => ?_
  rw [hs, hb, hw, hc', ← EReal.coe_mul]
  simp only [EReal.coe_eq_coe_iff, Nat.cast_inj, Fin.val_inj, decide_eq_true_eq, mul_ite, mul_one, mul_zero]

/-- The first greatest of the columns 0, …, n. -/
theorem best_at {s : Fin 36 → FVec Ideal S256x1 .f32} {S : Fin 36 → ℝ} (hs : ∀ k, s k (ix2 r 0) = ((S k : ℝ) : EReal)) :
    ∀ n, n < 36 → ∃ k : Fin 36, best s n (ix2 r 0) = ((S k : ℝ) : EReal) ∧ bestAt s n (ix2 r 0) = ((k.val : ℝ) : EReal) ∧
      k.val ≤ n ∧ (∀ i : Fin 36, i.val ≤ n → S i ≤ S k) ∧ ∀ i : Fin 36, i.val ≤ n → S k ≤ S i → k ≤ i := by
  intro n
  induction n with
  | zero =>
    intro _
    refine ⟨0, hs 0, ?_, le_rfl, ?_, fun i _ _ => Fin.zero_le i⟩
    · show Ideal.ofBits .f32 0x00000000#32 = _
      simp [Ideal.ofBits_zero_f32]
    · intro i hi
      rw [show i = 0 from Fin.ext (by simpa using hi)]
  | succ n ih =>
    intro hn
    obtain ⟨k, h1, h2, h3, h4, h5⟩ := ih (by omega)
    obtain ⟨m, hm⟩ : ∃ m : Fin 36, m = Fin.ofNat 36 (n + 1) := ⟨_, rfl⟩
    have hmv : m.val = n + 1 := by rw [hm]; simp only [Fin.ofNat]; omega
    have hbest : best s (n + 1) (ix2 r 0) = if S k < S m then ((S m : ℝ) : EReal) else ((S k : ℝ) : EReal) := by
      rw [best, ← hm]
      pointwise
      rw [h1, hs]
      simp only [EReal.coe_lt_coe_iff]
    have hat : bestAt s (n + 1) (ix2 r 0) = if S k < S m then ((m.val : ℝ) : EReal) else ((k.val : ℝ) : EReal) := by
      rw [bestAt, ← hm]
      generalize hc : word m = c
      have hc' : Ideal.ofBits .f32 c = ((m.val : ℝ) : EReal) := by rw [← hc, word_eq]
      pointwise
      rw [h1, h2, hs, hc']
      simp only [EReal.coe_lt_coe_iff]
    have hlast : ∀ i : Fin 36, i.val ≤ n + 1 → i.val ≤ n ∨ i = m := by
      intro i hi
      rcases Nat.lt_or_ge n i.val with h | h
      · exact .inr (Fin.ext (by omega))
      · exact .inl h
    by_cases hlt : S k < S m
    · refine ⟨m, by rw [hbest, if_pos hlt], by rw [hat, if_pos hlt], by omega, ?_, ?_⟩
      · intro i hi
        rcases hlast i hi with h | rfl
        · exact (h4 i h).trans hlt.le
        · exact le_rfl
      · intro i hi hle
        rcases hlast i hi with h | rfl
        · exact absurd (hle.trans (h4 i h)) (not_le.mpr hlt)
        · exact le_rfl
    · refine ⟨k, by rw [hbest, if_neg hlt], by rw [hat, if_neg hlt], by omega, ?_, ?_⟩
      · intro i hi
        rcases hlast i hi with h | rfl
        · exact h4 i h
        · exact not_lt.mp hlt
      · intro i hi hle
        rcases hlast i hi with h | rfl
        · exact h5 i h hle
        · rw [Fin.le_def]; omega

/-- The histogram's columns at one row. -/
theorem hist_at {x : Vec Ideal S256x1024 .f32} {p : ℕ → ℕ → ℝ} (hx : RowIs (View.ld x r0_0) r p) (k : Fin 36) :
    histStages x k (ix2 r 0) = ((histogram p k : ℝ) : EReal) := by
  have he : (Scalar.ofBits .f32 0x3E000000#32 : Ideal .f32) = ((1 / 8 : ℝ) : EReal) := by
    show Ideal.ofBits .f32 0x3E000000#32 = _
    rw [ofBits_eq_lit _ (by decide), lit_eighth]
  rw [histStages_eq, hist]
  have h1 := masked_at (r := r) (fun j => bin_at he hx j) (fun j => wLo_at he hx j) k
  have h2 := masked_at (r := r) (fun j => bin_at he hx j) (fun j => wUp_at he hx j) (k - 1)
  refine (congrArg₂ (· + ·) h1 h2).trans ?_
  rw [← EReal.coe_add]
  rfl

/-- The smoothed histogram's columns at one row. -/
theorem smooth_at {x : Vec Ideal S256x1024 .f32} {p : ℕ → ℕ → ℝ} (hx : RowIs (View.ld x r0_0) r p) (k : Fin 36) :
    smoothStages x k (ix2 r 0) = ((smoothed (histogram p) k : ℝ) : EReal) := by
  rw [smoothStages_eq, smooth]
  pointwise
  rw [hist_at hx, hist_at hx, hist_at hx, ofBits_eq_lit _ (by decide), ofBits_eq_lit _ (by decide)]
  simp only [← EReal.coe_mul, ← EReal.coe_add]
  rfl

/-- The body's angle at one row: that of the first greatest bin of the row's smoothed histogram. -/
theorem angle_at {x : Vec Ideal S256x1024 .f32} {p : ℕ → ℕ → ℝ} (hx : RowIs (View.ld x r0_0) r p) :
    ∃ k, IsFirstMax (smoothed (histogram p)) k ∧
      angle (bestAt (smoothStages x) 35) (ix2 r 0) = ((angleOf k : ℝ) : EReal) := by
  obtain ⟨k, -, h2, -, h4, h5⟩ := best_at (smooth_at hx) 35 (by omega)
  refine ⟨k, ⟨fun i => h4 i (by omega), fun i hi => h5 i (by omega) hi⟩, ?_⟩
  rw [angle]
  pointwise
  rw [h2, word_pi, ofBits_eq_lit _ (by decide), ← EReal.coe_mul, ← EReal.coe_sub]
  rfl

end Cert.Dominant

end
-- ==== Proof.KernelValue.lean ====
/- The kernel's result array, read at a patch: the angle of the first greatest bin. -/
module

public import proofs.«01_k».proof.Proof.KernelHist
public import proofs.«01_k».proof.Proof.Gen.KernelIdeal.Value
public import Idealize.ShloMosaic.Lib.Claim
public import Idealize.ShloMosaic.Lib.Pipeline.Value

@[expose] public section

open Cert.KernelIdeal Cert.KernelIdeal.Gen Idealize.ShloMosaic Idealize.ShloMosaic.TcCoe

noncomputable section

namespace Cert.Dominant

variable (m : (ℓ : Loc nD τ sig) → Buf (Elt Ideal) ℓ)

/-- Two zero offsets. -/
theorem hz2 : (![0, 0] : Fin 2 → Nat) = fun _ => 0 := funext fun a => by fin_cases a <;> rfl

/-- Three zero offsets. -/
theorem hz3 : (![0, 0, 0] : Fin 3 → Nat) = fun _ => 0 := funext fun a => by fin_cases a <;> rfl

/-- The array the kernel's region finds: one row a patch. -/
theorem rows_read (c : Dev nD) (s : Fin 65536) (j : Fin 1024) :
    V m c main_v0 (ix2 s j) = m ((c : Thread nD τ).loc main_arg0) (ix4 s 0 ⟨j / 32, by omega⟩ ⟨j % 32, by omega⟩) := by
  entry_read
  pointwise

/-- The block of the input at grid point `t`: rows `256 t` to `256 t + 255`. -/
theorem block_read (c : Dev nD) (t : Fin cfg0.N) (r : Fin 256) (j : Fin 1024) (h : t.val * 256 + r.val < 65536) :
    iblk m c 0 t (ix2 r j) = V m c main_v0 (ix2 ⟨t.val * 256 + r.val, h⟩ j) := by
  have hi : ∀ t : Fin grid0.N, win0_0.index t 0 = t.val ∧ win0_0.index t 1 = 0 := by decide +kernel
  unfold iblk
  rw [View.read_apply]
  show V m c main_v0 _ = V m c main_v0 _
  congr 1
  funext a
  apply Fin.ext
  match a with
  | ⟨0, _⟩ => show win0_0.index t 0 * 256 + 1 * r.val = t.val * 256 + r.val; rw [(hi t).1]; omega
  | ⟨1, _⟩ => show win0_0.index t 1 * 1024 + 1 * j.val = j.val; rw [(hi t).2]; omega

/-- What the body leaves in its block of the result, read at a row. -/
theorem out_read (x : Vec Ideal S256x1024 .f32) (r : Fin 256) :
    out0_1 x (ix3 0 r 0) = angle (bestAt (smoothStages x) 35) (ix2 r 0) := by
  rw [out0_1_eq, View.canon_unit_zero hz3]
  pointwise [k0_pay1]

/-- The result array at row `r` of grid point `t` is what that point's body leaves there. -/
theorem result_read (c : Dev nD) (t : Fin cfg0.N) (s : Fin 256) (hs : s.val = t.val) (r : Fin 256) :
    (dats m 0 c).arrAt 1 cfg0.N (ix3 s r 0) = out0_1 (iblk m c 0 t) (ix3 0 r 0) := by
  have hi : ∀ t : Fin grid0.N, win0_1.index t 0 = t.val ∧ win0_1.index t 1 = 0 ∧ win0_1.index t 2 = 0 := by decide +kernel
  have h := congrFun ((Value.blocks1 m c t (flush0_1 t)).trans (Value.flushed1 m c t)) (ix3 (0 : Fin 1) r (0 : Fin 1))
  rw [View.read_apply] at h
  refine Eq.trans ?_ (h.trans rfl)
  show (dats m 0 c).arrAt 1 cfg0.N _ = (dats m 0 c).arrAt 1 cfg0.N _
  congr 1
  funext a
  apply Fin.ext
  match a with
  | ⟨0, _⟩ => show s.val = win0_1.index t 0 * 1 + 1 * 0; rw [(hi t).1]; omega
  | ⟨1, _⟩ => show r.val = win0_1.index t 1 * 256 + 1 * r.val; rw [(hi t).2.1]; omega
  | ⟨2, _⟩ => show 0 = win0_1.index t 2 * 1 + 1 * 0; rw [(hi t).2.2]

/-- The kernel's result at patch `256 t + r`. -/
theorem kernel_angle (c : Dev nD) (p : ℕ → ℕ → ℕ → ℝ)
    (hp : ∀ (s : Fin 65536) (a b : Fin 32), m ((c : Thread nD τ).loc main_arg0) (ix4 s 0 a b) = ((p s a b : ℝ) : EReal))
    (t r : Fin 256) :
    ∃ k, IsFirstMax (smoothed (histogram (p (t * 256 + r)))) k
      ∧ (dats m 0 c).arrAt 1 cfg0.N (ix3 t r 0) = ((angleOf k : ℝ) : EReal) := by
  have hN : cfg0.N = 256 := by decide +kernel
  have hx : RowIs (View.ld (iblk m c 0 ⟨t.val, by rw [hN]; exact t.isLt⟩) r0_0) r (p (t * 256 + r)) := by
    intro j
    refine (congrFun (View.ld_unit_zero (S := S256x1024) hz2 _ _) _).trans ?_
    rw [block_read m c _ r j (by show t.val * 256 + r.val < 65536; omega), rows_read, hp]
  obtain ⟨k, hk, ha⟩ := angle_at hx
  refine ⟨k, hk, ?_⟩
  rw [result_read m c ⟨t.val, by rw [hN]; exact t.isLt⟩ t rfl r, out_read]
  exact ha

end Cert.Dominant

end
-- ==== Proof.RefOps.lean ====
/- The reference's operations, in order. -/
module

public import proofs.«01_k».proof.Proof.Gen.ReferenceIdeal
public import Idealize.ShloMosaic.Lib.Claim
public import Idealize.ShloMosaic.Lib.StableHlo.ReadAt
public import Idealize.ShloMosaic.PureOps.Ideal

@[expose] public section

noncomputable section

namespace Cert.Dominant

open Cert.ReferenceIdeal Cert.ReferenceIdeal.Gen Idealize.ShloMosaic Idealize.ShloMosaic.StableHlo

/-- The reference's operations in order, the called functions' in their places, read off its text. -/
def refLine : { ops : List (HloOp τ sig (Elt Ideal)) // ∀ d, IsSeq (main (F := Ideal) d) ops } := by
  apply Subtype.mk
  case property =>
    intro d
    simp only [main, main_part0, main_part1, main_part2, main_part3, fn_pad.body, fn_remainder.body, fn_remainder_0.body,
      fn_where.body, fn_argmax.body, fn_roll_static.body, fn_roll_static_1.body, bind_assoc, pure_bind]
    hlo_seq

/-- The operations alone. -/
def refOps : List (HloOp τ sig (Elt Ideal)) := refLine.1

/-- The buffers' contents after `n + k` operations are what operations `n, …, n + k - 1` make of those after `n`. -/
theorem upto_add (V : Valuation τ sig (Elt Ideal)) (n k : ℕ) :
    upto refOps V (n + k) = after ((refOps.drop n).take k) (upto refOps V n) := by
  unfold upto
  rw [List.take_add]
  generalize refOps.take n = l
  induction l generalizing V with
  | nil => rfl
  | cons op l ih => exact ih _

end Cert.Dominant

end
-- ==== Proof.RefPad.lean ====
/- The reference's edge padding, read at an index. -/
module

public import proofs.«01_k».proof.Proof.RefOps
public import proofs.«01_k».proof.Proof.Spec
public import Idealize.ShloMosaic.Lib.Pointwise

@[expose] public section

open Cert.ReferenceIdeal Cert.ReferenceIdeal.Gen Idealize.ShloMosaic Idealize.ShloMosaic.StableHlo

noncomputable section

namespace Cert.Dominant

/-- The patches with no patch put in front or behind. -/
theorem pad_cat0 (V : Valuation τ sig (Elt Ideal)) :
    after ((refOps.drop 8).take 1) V (Proc.devRef .tc main_call0_v6)
      = concatenate S65536x32x32 0 [⟨S0x32x32, V (Proc.devRef .tc main_call0_v2)⟩,
          ⟨S65536x32x32, V (Proc.devRef .tc main_v0)⟩, ⟨S0x32x32, V (Proc.devRef .tc main_call0_v5)⟩]
          concatenates_S0x32x32_S65536x32x32_S0x32x32_S65536x32x32_d0 := by
  after_reads_simp
  rfl

/-- The patches with one row put in front and one behind. -/
theorem pad_cat1 (V : Valuation τ sig (Elt Ideal)) :
    after ((refOps.drop 15).take 1) V (Proc.devRef .tc main_call0_v13)
      = concatenate S65536x34x32 1 [⟨S65536x1x32, V (Proc.devRef .tc main_call0_v9)⟩,
          ⟨S65536x32x32, V (Proc.devRef .tc main_call0_v6)⟩, ⟨S65536x1x32, V (Proc.devRef .tc main_call0_v12)⟩]
          concatenates_S65536x1x32_S65536x32x32_S65536x1x32_S65536x34x32_d1 := by
  after_reads_simp
  rfl

/-- The patches with one column put in front and one behind. -/
theorem pad_cat2 (V : Valuation τ sig (Elt Ideal)) :
    after ((refOps.drop 22).take 1) V (Proc.devRef .tc main_v1)
      = concatenate S65536x34x34 2 [⟨S65536x34x1, V (Proc.devRef .tc main_call0_v16)⟩,
          ⟨S65536x34x32, V (Proc.devRef .tc main_call0_v13)⟩, ⟨S65536x34x1, V (Proc.devRef .tc main_call0_v19)⟩]
          concatenates_S65536x34x1_S65536x34x32_S65536x34x1_S65536x34x34_d2 := by
  after_reads_simp
  rfl

/-- Padding by no patches gives the patches. -/
theorem pad0 (V : Valuation τ sig (Elt Ideal)) (r : Fin 65536) (a : Fin 32) (c : Fin 32) :
    upto refOps V 9 (Proc.devRef .tc main_call0_v6) (ix3 r a c)
      = V (Proc.devRef .tc main_arg0) (ix4 r 0 a c) := by
  rw [show 9 = 8 + 1 from rfl, upto_add, pad_cat0]
  after_reads_simp
  clean_types
  pointwise
  simp

/-- The rows put in front and behind are the first and the last row of each patch. -/
theorem pad1 (V : Valuation τ sig (Elt Ideal)) (r : Fin 65536) (a : Fin 34) (c : Fin 32) :
    upto refOps V 16 (Proc.devRef .tc main_call0_v13) (ix3 r a c)
      = V (Proc.devRef .tc main_arg0) (ix4 r 0 (Fin.ofNat 32 (edge a)) c) := by
  have h9 : upto refOps V 15 (Proc.devRef .tc main_call0_v9) (ix3 r (0 : Fin 1) c)
      = upto refOps V 9 (Proc.devRef .tc main_call0_v6) (ix3 r (0 : Fin 32) c) := by
    rw [show 15 = 9 + 6 from rfl, upto_add]
    generalize upto refOps V 9 = W
    after_reads_at
  have h12 : upto refOps V 15 (Proc.devRef .tc main_call0_v12) (ix3 r (0 : Fin 1) c)
      = upto refOps V 9 (Proc.devRef .tc main_call0_v6) (ix3 r (31 : Fin 32) c) := by
    rw [show 15 = 9 + 6 from rfl, upto_add]
    generalize upto refOps V 9 = W
    after_reads_at
  have h6 : upto refOps V 15 (Proc.devRef .tc main_call0_v6)
      = upto refOps V 9 (Proc.devRef .tc main_call0_v6) := by
    rw [show 15 = 9 + 6 from rfl, upto_add]
    generalize upto refOps V 9 = W
    after_reads_simp
  rw [show 16 = 15 + 1 from rfl, upto_add, pad_cat1]
  pointwise
  have e : ∀ i : Fin 1, i = 0 := fun i => Subsingleton.elim _ _
  split
  · next h =>
    rw [e ⟨a.val, _⟩, h9, pad0]
    congr 2
    have h0 : a.val = 0 := by omega
    simp [edge, h0]
  · split
    · next h _ =>
      rw [h6, pad0]
      congr 2
      ext
      simp only [edge, Fin.ofNat]
      omega
    · next h _ =>
      rw [e ⟨a.val - 1 - 32, _⟩, h12, pad0]
      congr 2
      ext
      simp only [edge, Fin.ofNat]
      show 31 = _
      omega

/-- The padded patches: position `(a, c)` holds the nearest pixel of the patch. -/
theorem pad2 (V : Valuation τ sig (Elt Ideal)) (r : Fin 65536) (a : Fin 34) (c : Fin 34) :
    upto refOps V 23 (Proc.devRef .tc main_v1) (ix3 r a c)
      = V (Proc.devRef .tc main_arg0) (ix4 r 0 (Fin.ofNat 32 (edge a)) (Fin.ofNat 32 (edge c))) := by
  have h16 : upto refOps V 22 (Proc.devRef .tc main_call0_v16) (ix3 r a (0 : Fin 1))
      = upto refOps V 16 (Proc.devRef .tc main_call0_v13) (ix3 r a (0 : Fin 32)) := by
    rw [show 22 = 16 + 6 from rfl, upto_add]
    generalize upto refOps V 16 = W
    after_reads_at
  have h19 : upto refOps V 22 (Proc.devRef .tc main_call0_v19) (ix3 r a (0 : Fin 1))
      = upto refOps V 16 (Proc.devRef .tc main_call0_v13) (ix3 r a (31 : Fin 32)) := by
    rw [show 22 = 16 + 6 from rfl, upto_add]
    generalize upto refOps V 16 = W
    after_reads_at
  have h13 : upto refOps V 22 (Proc.devRef .tc main_call0_v13)
      = upto refOps V 16 (Proc.devRef .tc main_call0_v13) := by
    rw [show 22 = 16 + 6 from rfl, upto_add]
    generalize upto refOps V 16 = W
    after_reads_simp
  rw [show 23 = 22 + 1 from rfl, upto_add, pad_cat2]
  pointwise
  have e : ∀ i : Fin 1, i = 0 := fun i => Subsingleton.elim _ _
  split
  · next h =>
    rw [e ⟨c.val, _⟩, h16, pad1]
    congr 2
    have h0 : c.val = 0 := by omega
    simp [edge, h0]
  · split
    · next h _ =>
      rw [h13, pad1]
      congr 2
      ext
      simp only [edge, Fin.ofNat]
      omega
    · next h _ =>
      rw [e ⟨c.val - 1 - 32, _⟩, h19, pad1]
      congr 2
      ext
      simp only [edge, Fin.ofNat]
      show 31 = _
      omega

end Cert.Dominant

end
-- ==== Proof.RefGrad.lean ====
/- The reference's gradients, magnitudes and orientations, read at a pixel. -/
module

public import proofs.«01_k».proof.Proof.RefOps
public import proofs.«01_k».proof.Proof.Scalars
public import Idealize.ShloMosaic.Lib.Pointwise

@[expose] public section

open Cert.ReferenceIdeal Cert.ReferenceIdeal.Gen Idealize.ShloMosaic Idealize.ShloMosaic.StableHlo

noncomputable section

namespace Cert.Dominant

/-- The reference's horizontal gradients. -/
theorem ref_gradX (V : Valuation τ sig (Elt Ideal)) (p : ℕ → ℕ → ℕ → ℝ)
    (hV : ∀ (r : Fin 65536) (a c : Fin 34), V (Proc.devRef .tc main_v1) (ix3 r a c) = ((padded (p r) a c : ℝ) : EReal))
    (r : Fin 65536) (a c : Fin 32) :
    after ((refOps.drop 23).take 85) V (Proc.devRef .tc main_v63) (ix3 r a c) = ((gradX (p r) a c : ℝ) : EReal) := by
  after_reads_at
  rw [ofBits_eq_lit 3187671040#32 (by decide), ofBits_eq_lit 1040187392#32 (by decide),
    ofBits_eq_lit 3196059648#32 (by decide), ofBits_eq_lit 1048576000#32 (by decide), lit_neg_eighth, lit_eighth, lit_quarter,
    lit_neg_quarter]
  simp only [hV, zero_mul, add_zero, ← EReal.coe_mul, ← EReal.coe_add]
  congr 1
  unfold gradX
  simp only [Nat.add_comm]
  ring

/-- The reference's vertical gradients. -/
theorem ref_gradY (V : Valuation τ sig (Elt Ideal)) (p : ℕ → ℕ → ℕ → ℝ)
    (hV : ∀ (r : Fin 65536) (a c : Fin 34), V (Proc.devRef .tc main_v1) (ix3 r a c) = ((padded (p r) a c : ℝ) : EReal))
    (r : Fin 65536) (a c : Fin 32) :
    after ((refOps.drop 23).take 85) V (Proc.devRef .tc main_v66) (ix3 r a c) = ((gradY (p r) a c : ℝ) : EReal) := by
  after_reads_at
  rw [ofBits_eq_lit 3187671040#32 (by decide), ofBits_eq_lit 1040187392#32 (by decide),
    ofBits_eq_lit 3196059648#32 (by decide), ofBits_eq_lit 1048576000#32 (by decide), lit_neg_eighth, lit_eighth, lit_quarter,
    lit_neg_quarter]
  simp only [hV, zero_mul, add_zero, ← EReal.coe_mul, ← EReal.coe_add]
  congr 1
  unfold gradY
  simp only [Nat.add_comm]
  ring

/-- The magnitude, from the gradients. -/
theorem ref_mag (V : Valuation τ sig (Elt Ideal)) (r : Fin 65536) (a c : Fin 32) (x y : ℝ)
    (hx : V (Proc.devRef .tc main_v63) (ix3 r a c) = (x : EReal))
    (hy : V (Proc.devRef .tc main_v66) (ix3 r a c) = (y : EReal)) :
    after ((refOps.drop 108).take 25) V (Proc.devRef .tc main_v72) (ix3 r a c) = ((mag x y : ℝ) : EReal) := by
  after_reads_at
  rw [hx, hy]
  exact sqrt_eq_mag x y

/-- The whole part of the orientation in bins, from the gradients. -/
theorem ref_floor (V : Valuation τ sig (Elt Ideal)) (r : Fin 65536) (a c : Fin 32) (x y : ℝ)
    (hx : V (Proc.devRef .tc main_v63) (ix3 r a c) = (x : EReal))
    (hy : V (Proc.devRef .tc main_v66) (ix3 r a c) = (y : EReal)) :
    after ((refOps.drop 108).take 25) V (Proc.devRef .tc main_v84) (ix3 r a c) = ((⌊turn x y⌋ : ℝ) : EReal) := by
  after_reads_at
  rw [hx, hy, div_eq_turn, Ideal.liftRound_coe]

/-- The fractional part of the orientation in bins, from the gradients. -/
theorem ref_frac (V : Valuation τ sig (Elt Ideal)) (r : Fin 65536) (a c : Fin 32) (x y : ℝ)
    (hx : V (Proc.devRef .tc main_v63) (ix3 r a c) = (x : EReal))
    (hy : V (Proc.devRef .tc main_v66) (ix3 r a c) = (y : EReal)) :
    after ((refOps.drop 108).take 25) V (Proc.devRef .tc main_v85) (ix3 r a c) = ((frac x y : ℝ) : EReal) := by
  after_reads_at
  rw [hx, hy, div_eq_turn, Ideal.liftRound_coe, ← EReal.coe_sub]
  rfl

/-- The remainder by 36 of the orientation's whole part, as an integer word, is the gradient's bin. -/
theorem ref_bin (V : Valuation τ sig (Elt Ideal)) (r : Fin 65536) (a c : Fin 32) (x y : ℝ)
    (hf : V (Proc.devRef .tc main_v84) (ix3 r a c) = ((⌊turn x y⌋ : ℝ) : EReal)) :
    after ((refOps.drop 133).take 19) V (Proc.devRef .tc main_v87) (ix3 r a c) = BitVec.ofNat 32 (bin x y).val := by
  after_reads_at
  have h36 : (FloatOps.sitofp .f32 36#32 : Ideal .f32) = ((36 : ℝ) : EReal) := by
    show (((36#32 : BitVec 32).toInt : ℝ) : EReal) = _
    rw [show (36#32 : BitVec 32).toInt = 36 from rfl]
    norm_num
  have h1 : decide ((((bin x y).val : ℝ) : EReal) < 0) = false :=
    decide_eq_false (not_lt.mpr (by exact_mod_cast Nat.zero_le _))
  have h2 : decide (((36 : ℝ) : EReal) < 0) = false := decide_eq_false (not_lt.mpr (by exact_mod_cast (by norm_num : (0 : ℝ) ≤ 36)))
  have hs : ∀ (z : Bool) (u v : EReal), Scalar.select (IntOp.andi (IntOp.cmpi .ne (BitVec.ofBool false) (BitVec.ofBool false))
      (BitVec.ofBool z)) u v = v := fun z u v => by cases z <;> rfl
  rw [hf, h36, remf_eq_bin, h1, h2]
  refine (congrArg (Ideal.fptosi 32) (hs _ _ _)).trans ?_
  exact fptosi_nat _ (by have := (bin x y).isLt; omega)

/-- The remainder by 36 of one more than a bin's number is the number of the next bin on the circle. -/
theorem ref_next (V : Valuation τ sig (Elt Ideal)) (r : Fin 65536) (a c : Fin 32) (k : Fin 36)
    (hb : V (Proc.devRef .tc main_v87) (ix3 r a c) = BitVec.ofNat 32 k.val) :
    after ((refOps.drop 152).take 25) V (Proc.devRef .tc main_v90) (ix3 r a c) = BitVec.ofNat 32 (k + 1).val := by
  after_reads_at
  rw [hb]
  clear hb
  revert k
  decide

/-- The lower weight, from the fractional part and the magnitude. -/
theorem ref_wLo (V : Valuation τ sig (Elt Ideal)) (r : Fin 65536) (a c : Fin 32) (x y : ℝ)
    (hf : V (Proc.devRef .tc main_v85) (ix3 r a c) = ((frac x y : ℝ) : EReal))
    (hm : V (Proc.devRef .tc main_v72) (ix3 r a c) = ((mag x y : ℝ) : EReal)) :
    after ((refOps.drop 177).take 5) V (Proc.devRef .tc main_v93) (ix3 r a c) = ((wLo x y : ℝ) : EReal) := by
  after_reads_at
  rw [hf, hm]
  norm_cast

/-- The upper weight, from the fractional part and the magnitude. -/
theorem ref_wUp (V : Valuation τ sig (Elt Ideal)) (r : Fin 65536) (a c : Fin 32) (x y : ℝ)
    (hf : V (Proc.devRef .tc main_v85) (ix3 r a c) = ((frac x y : ℝ) : EReal))
    (hm : V (Proc.devRef .tc main_v72) (ix3 r a c) = ((mag x y : ℝ) : EReal)) :
    after ((refOps.drop 177).take 5) V (Proc.devRef .tc main_v94) (ix3 r a c) = ((wUp x y : ℝ) : EReal) := by
  after_reads_at
  rw [hf, hm]
  norm_cast

end Cert.Dominant

end
-- ==== Proof.RefHist.lean ====
/- The reference's histogram and its smoothing, read at a patch. -/
module

public import proofs.«01_k».proof.Proof.RefOps
public import proofs.«01_k».proof.Proof.Scalars
public import Idealize.ShloMosaic.Lib.Pointwise
public import Idealize.ShloMosaic.Lib.Routing.OpsPair
public import Idealize.ShloMosaic.Lib.Pointwise.IndexBridge

@[expose] public section

open Cert.ReferenceIdeal Cert.ReferenceIdeal.Gen Idealize.ShloMosaic Idealize.ShloMosaic.StableHlo

noncomputable section

namespace Cert.Dominant

/-- A row number is below the sign bit, so the wrap of a negative index leaves it. -/
theorem row_wrap (r : Fin 65536) (a : BitVec 32) :
    Scalar.select (IntOp.cmpi .slt (BitVec.ofNat 32 r.val) 0#32) a (BitVec.ofNat 32 r.val) = BitVec.ofNat 32 r.val :=
  Routing.wrap_of_lt _ _ (by rw [BitVec.toNat_ofNat, Nat.mod_eq_of_lt] <;> omega)

/-- So is the number of a bin. -/
theorem bin_wrap (k : Fin 36) (a : BitVec 32) :
    Scalar.select (IntOp.cmpi .slt (BitVec.ofNat 32 k.val) 0#32) a (BitVec.ofNat 32 k.val) = BitVec.ofNat 32 k.val :=
  Routing.wrap_of_lt _ _ (by rw [BitVec.toNat_ofNat, Nat.mod_eq_of_lt] <;> omega)

/-- The column of row numbers. -/
theorem rows_at (V : Valuation τ sig (Elt Ideal)) (r : Fin 65536) :
    after ((refOps.drop 182).take 24) V (Proc.devRef .tc main_v96) (ix2 r 0) = BitVec.ofNat 32 r.val := by
  after_reads_at

/-- The first word of an index of the first scatter: the row. -/
theorem lower_row (V : Valuation τ sig (Elt Ideal)) (r : Fin 65536) (q : Fin 1024) :
    after ((refOps.drop 182).take 24) V (Proc.devRef .tc main_v113) (ix3 r q 0) = BitVec.ofNat 32 r.val := by
  after_reads_at
  exact row_wrap r _

/-- The second word of an index of the first scatter: the bin. -/
theorem lower_bin (V : Valuation τ sig (Elt Ideal)) (r : Fin 65536) (q : Fin 1024) (k : Fin 36)
    (hb : V (Proc.devRef .tc main_v87) (ix3 r ⟨q / 32, by omega⟩ ⟨q % 32, by omega⟩) = BitVec.ofNat 32 k.val) :
    after ((refOps.drop 182).take 24) V (Proc.devRef .tc main_v113) (ix3 r q 1) = BitVec.ofNat 32 k.val := by
  after_reads_at
  rw [hb]
  exact bin_wrap k _

/-- What the first scatter adds. -/
theorem lower_upd (V : Valuation τ sig (Elt Ideal)) (r : Fin 65536) (q : Fin 1024) :
    after ((refOps.drop 182).take 24) V (Proc.devRef .tc main_v99) (ix2 r q)
      = V (Proc.devRef .tc main_v93) (ix3 r ⟨q / 32, by omega⟩ ⟨q % 32, by omega⟩) := by
  after_reads_at

/-- What the first scatter adds to. -/
theorem lower_zero (V : Valuation τ sig (Elt Ideal)) (r : Fin 65536) (k : Fin 36) :
    after ((refOps.drop 182).take 24) V (Proc.devRef .tc main_v97) (ix2 r k) = (0 : EReal) := by
  after_reads_at

/-- The first word of an index of the second scatter: the row. -/
theorem upper_row (V : Valuation τ sig (Elt Ideal)) (r : Fin 65536) (q : Fin 1024)
    (hr : V (Proc.devRef .tc main_v96) (ix2 r 0) = BitVec.ofNat 32 r.val) :
    after ((refOps.drop 207).take 20) V (Proc.devRef .tc main_v130) (ix3 r q 0) = BitVec.ofNat 32 r.val := by
  after_reads_at
  rw [hr]
  exact row_wrap r _

/-- The second word of an index of the second scatter: the next bin. -/
theorem upper_bin (V : Valuation τ sig (Elt Ideal)) (r : Fin 65536) (q : Fin 1024) (k : Fin 36)
    (hb : V (Proc.devRef .tc main_v90) (ix3 r ⟨q / 32, by omega⟩ ⟨q % 32, by omega⟩) = BitVec.ofNat 32 k.val) :
    after ((refOps.drop 207).take 20) V (Proc.devRef .tc main_v130) (ix3 r q 1) = BitVec.ofNat 32 k.val := by
  after_reads_at
  rw [hb]
  exact bin_wrap k _

/-- What the second scatter adds. -/
theorem upper_upd (V : Valuation τ sig (Elt Ideal)) (r : Fin 65536) (q : Fin 1024) :
    after ((refOps.drop 207).take 20) V (Proc.devRef .tc main_v116) (ix2 r q)
      = V (Proc.devRef .tc main_v94) (ix3 r ⟨q / 32, by omega⟩ ⟨q % 32, by omega⟩) := by
  after_reads_at

/-- Where an update of a scatter lands: at the row and the bin its two index words give. -/
theorem lands (idx : IVec S65536x1024x2 32) (s : Fin 65536) (q : Fin 1024) (r : Fin 65536) (k : Fin 36) :
    scatter_S65536x36_S65536x1024x2_S65536x1024_n_01_01_2.resultIdx? (ix2 s q) idx = some (ix2 r k)
      ↔ (idx (ix3 s q 0)).toInt = r.val ∧ (idx (ix3 s q 1)).toInt = k.val := by
  have h := Routing.scatter_lands2 scatter_S65536x36_S65536x1024x2_S65536x1024_n_01_01_2 rfl rfl rfl idx s q r k
  rwa [← ix2_eq_valueIdx, ← ix2_eq_valueIdx, ← ix3_eq_valueIdx, ← ix3_eq_valueIdx] at h

/-- A scatter whose indices are (row, bin) pairs adds to bin `k` of row `r` what row `r` holds for that bin. -/
theorem scatter_at (x : FVec Ideal S65536x36 .f32) (idx : IVec S65536x1024x2 32) (upd : FVec Ideal S65536x1024 .f32)
    (r : Fin 65536) (k : Fin 36) (b : Fin 1024 → Fin 36)
    (hrow : ∀ (s : Fin 65536) (q : Fin 1024), idx (ix3 s q 0) = BitVec.ofNat 32 s.val)
    (hbin : ∀ q : Fin 1024, idx (ix3 r q 1) = BitVec.ofNat 32 (b q).val) :
    Host.scatterAdd (F := Ideal) scatter_S65536x36_S65536x1024x2_S65536x1024_n_01_01_2 x idx upd (ix2 r k)
      = (x (ix2 r k) + ∑ q : Fin 1024, if b q = k then upd (ix2 r q) else 0 : EReal) := by
  show Ideal.hostScatterAdd _ x idx upd (ix2 r k) = _
  unfold Ideal.hostScatterAdd
  refine congrArg (fun z : EReal => x (ix2 r k) + z) ?_
  rw [Finset.sum_filter, sum_idx2]
  rw [Finset.sum_eq_single r]
  · refine Finset.sum_congr rfl fun q _ => ?_
    refine if_congr ?_ rfl rfl
    rw [lands, hrow, hbin, WordCmp.toInt_ofNat_of_lt (by omega), WordCmp.toInt_ofNat_of_lt (by omega)]
    exact ⟨fun h => Fin.ext (by exact_mod_cast h.2), fun h => ⟨rfl, by rw [h]⟩⟩
  · intro s _ hs
    refine Finset.sum_eq_zero fun q _ => if_neg fun h => hs ?_
    rw [lands, hrow, WordCmp.toInt_ofNat_of_lt (by omega)] at h
    exact Fin.ext (by exact_mod_cast h.1)
  · exact fun h => absurd (Finset.mem_univ r) h

/-- The first scatter. -/
theorem lower_at (V : Valuation τ sig (Elt Ideal)) (i : (S65536x36).Idx) :
    after ((refOps.drop 206).take 1) V (Proc.devRef .tc main_v114) i
      = Host.scatterAdd (F := Ideal) (φ := .f32) scatter_S65536x36_S65536x1024x2_S65536x1024_n_01_01_2 (V (Proc.devRef .tc main_v97))
          (V (Proc.devRef .tc main_v113)) (V (Proc.devRef .tc main_v99)) i := by
  after_reads_simp

/-- The second scatter. -/
theorem upper_at (V : Valuation τ sig (Elt Ideal)) (i : (S65536x36).Idx) :
    after ((refOps.drop 227).take 1) V (Proc.devRef .tc main_v131) i
      = Host.scatterAdd (F := Ideal) (φ := .f32) scatter_S65536x36_S65536x1024x2_S65536x1024_n_01_01_2 (V (Proc.devRef .tc main_v114))
          (V (Proc.devRef .tc main_v130)) (V (Proc.devRef .tc main_v116)) i := by
  after_reads_simp

end Cert.Dominant

end
-- ==== Proof.RefSmooth.lean ====
/- The reference's smoothing of a histogram, read at a bin. -/
module

public import proofs.«01_k».proof.Proof.RefOps
public import proofs.«01_k».proof.Proof.Scalars
public import Idealize.ShloMosaic.Lib.Pointwise

@[expose] public section

open Cert.ReferenceIdeal Cert.ReferenceIdeal.Gen Idealize.ShloMosaic Idealize.ShloMosaic.StableHlo

noncomputable section

namespace Cert.Dominant

/-- The histogram divided by the number of pixels. -/
theorem mean_at (V : Valuation τ sig (Elt Ideal)) (r : Fin 65536) (k : Fin 36) (h : ℝ)
    (hh : V (Proc.devRef .tc main_v131) (ix2 r k) = (h : EReal)) :
    after ((refOps.drop 228).take 3) V (Proc.devRef .tc main_v133) (ix2 r k) = ((1 / 1024 * h : ℝ) : EReal) := by
  after_reads_at
  have h1024 : Ideal.ofBits .f32 0x44800000#32 = ((1024 : ℝ) : EReal) := by
    rw [ofBits_eq_lit _ (by decide)]
    simp [lit, Ideal.ofBits, Ideal.ieee]
    rw [← EReal.coe_mul, EReal.toReal_coe]
    norm_num
  rw [hh, h1024, Ideal.div_coe (by norm_num), ← EReal.coe_mul, mul_comm]

/-- The bin before the first: the last one. -/
theorem before_first (V : Valuation τ sig (Elt Ideal)) (r : Fin 65536) :
    after ((refOps.drop 231).take 2) V (Proc.devRef .tc main_call3_v0) (ix2 r 0) = V (Proc.devRef .tc main_v133) (ix2 r 35) := by
  after_reads_at

/-- The bins before the others. -/
theorem before_others (V : Valuation τ sig (Elt Ideal)) (r : Fin 65536) (k : Fin 35) :
    after ((refOps.drop 231).take 2) V (Proc.devRef .tc main_call3_v1) (ix2 r k) = V (Proc.devRef .tc main_v133) (ix2 r k.castSucc) := by
  after_reads_at
  rfl

/-- The bin and its lower neighbour, weighted. -/
theorem lower_sum (V : Valuation τ sig (Elt Ideal)) (r : Fin 65536) (k : Fin 36) (h : Fin 36 → ℝ)
    (hh : V (Proc.devRef .tc main_v133) (ix2 r k) = (h k : EReal))
    (h0 : V (Proc.devRef .tc main_call3_v0) (ix2 r 0) = (h 35 : EReal))
    (h1 : ∀ j : Fin 35, V (Proc.devRef .tc main_call3_v1) (ix2 r j) = (h j.castSucc : EReal)) :
    after ((refOps.drop 233).take 8) V (Proc.devRef .tc main_v139) (ix2 r k)
      = ((lit 0x3EA8F5C3#32 * h (k - 1) + lit 0x3EAE147B#32 * h k : ℝ) : EReal) := by
  after_reads_at
  rw [hh, ofBits_eq_lit _ (by decide), ofBits_eq_lit _ (by decide), EReal.coe_add, EReal.coe_mul, EReal.coe_mul]
  refine congrArg (fun z : EReal => (lit 0x3EA8F5C3#32 : EReal) * z + (lit 0x3EAE147B#32 : EReal) * (h k : EReal)) ?_
  split
  · rename_i hk
    obtain rfl : k = 0 := Fin.ext (by simpa using hk)
    exact h0
  · rename_i hk
    refine (h1 _).trans (congrArg (fun j => ((h j : ℝ) : EReal)) (Fin.ext ?_))
    rw [Fin.val_sub]
    simp only [Fin.val_castSucc]
    show k.val - 1 = (36 - 1 + k.val) % 36
    omega

/-- The bins after all but the last. -/
theorem after_others (V : Valuation τ sig (Elt Ideal)) (r : Fin 65536) (k : Fin 35) :
    after ((refOps.drop 241).take 2) V (Proc.devRef .tc main_call4_v0) (ix2 r k) = V (Proc.devRef .tc main_v133) (ix2 r k.succ) := by
  after_reads_at
  exact congrArg (fun j => V (Proc.devRef .tc main_v133) (ix2 r j)) (Fin.ext (Nat.add_comm _ _))

/-- The bin after the last: the first one. -/
theorem after_last (V : Valuation τ sig (Elt Ideal)) (r : Fin 65536) :
    after ((refOps.drop 241).take 2) V (Proc.devRef .tc main_call4_v1) (ix2 r 0) = V (Proc.devRef .tc main_v133) (ix2 r 0) := by
  after_reads_at

/-- The sum with the upper neighbour, weighted. -/
theorem whole_sum (V : Valuation τ sig (Elt Ideal)) (r : Fin 65536) (k : Fin 36) (h : Fin 36 → ℝ) (s : ℝ)
    (hs : V (Proc.devRef .tc main_v139) (ix2 r k) = (s : EReal))
    (h0 : V (Proc.devRef .tc main_call4_v1) (ix2 r 0) = (h 0 : EReal))
    (h1 : ∀ j : Fin 35, V (Proc.devRef .tc main_call4_v0) (ix2 r j) = (h j.succ : EReal)) :
    after ((refOps.drop 243).take 5) V (Proc.devRef .tc main_v143) (ix2 r k)
      = ((s + lit 0x3EA8F5C3#32 * h (k + 1) : ℝ) : EReal) := by
  after_reads_at
  rw [hs, ofBits_eq_lit _ (by decide), EReal.coe_add, EReal.coe_mul]
  refine congrArg (fun z : EReal => (s : EReal) + (lit 0x3EA8F5C3#32 : EReal) * z) ?_
  split
  · rename_i hk
    refine (h1 _).trans (congrArg (fun j => ((h j : ℝ) : EReal)) (Fin.ext ?_))
    rw [Fin.val_add]
    simp only [Fin.val_succ]
    show k.val + 1 = (k.val + 1) % 36
    omega
  · rename_i hk
    obtain rfl : k = 35 := Fin.ext (by have := k.isLt; show k.val = 35; omega)
    exact h0

end Cert.Dominant

end
-- ==== Proof.RefPick.lean ====
/- The bin the reference picks and its angle, read at a patch. -/
module

public import proofs.«01_k».proof.Proof.RefOps
public import proofs.«01_k».proof.Proof.Scalars
public import Idealize.ShloMosaic.Lib.Pointwise
public import Idealize.ShloMosaic.PureOps.Reduce
public import Idealize.ShloMosaic.Lib.WordCmp

@[expose] public section

open Cert.ReferenceIdeal Cert.ReferenceIdeal.Gen Idealize.ShloMosaic Idealize.ShloMosaic.StableHlo

noncomputable section

namespace Cert.Dominant

/-- Bin `k` of the numbers `s`: its value and its number. -/
def entry (s : Fin 36 → ℝ) (k : Fin 36) : EReal × BitVec 32 := ((s k : EReal), BitVec.ofNat 32 k.val)

/-- The reference's comparison of two entries. -/
def pick : EReal × BitVec 32 → EReal × BitVec 32 → EReal × BitVec 32 := reducer_argmax_f32_i32 (F := Ideal)

/-- The numbers of two bins compare as signed words as the bins do. -/
theorem slt_bins (i k : Fin 36) : IntOp.cmpi .slt (BitVec.ofNat 32 i.val) (BitVec.ofNat 32 k.val) = BitVec.ofBool (decide (i < k)) := by
  revert i k
  decide

/-- Any entry is taken before the start of the search. -/
theorem pick_start (s : Fin 36 → ℝ) (k : Fin 36) : pick ((⊥ : EReal), 0#32) (entry s k) = entry s k := by
  have h1 : decide ((s k : EReal) < (⊥ : EReal)) = false := decide_eq_false not_lt_bot
  have h2 : decide ((⊥ : EReal) = (s k : EReal)) = false := decide_eq_false (EReal.bot_ne_coe _)
  have h3 : decide ((⊥ : EReal) ≠ (⊥ : EReal)) = false := decide_eq_false (fun h => h rfl)
  unfold pick reducer_argmax_f32_i32 entry
  simp only [Ideal.cmpf_def, Ideal.cmp]
  rw [h1, h2, h3]
  generalize IntOp.cmpi .slt 0#32 (BitVec.ofNat 32 k.val) = z
  rw [show IntOp.andi (BitVec.ofBool false) z = BitVec.ofBool false by revert z; decide]
  rfl

/-- Of two entries the one with the greater value is kept, of equal values the one with the smaller number. -/
theorem pick_entry (s : Fin 36 → ℝ) (i k : Fin 36) :
    pick (entry s i) (entry s k) = if s k < s i ∨ (s i = s k ∧ i < k) then entry s i else entry s k := by
  have h1 : decide ((s k : EReal) < (s i : EReal)) = decide (s k < s i) := decide_eq_decide.2 EReal.coe_lt_coe_iff
  have h2 : decide ((s i : EReal) = (s k : EReal)) = decide (s i = s k) := decide_eq_decide.2 EReal.coe_eq_coe_iff
  have h3 : decide ((s i : EReal) ≠ (s i : EReal)) = false := decide_eq_false (fun h => h rfl)
  unfold pick reducer_argmax_f32_i32 entry
  simp only [Ideal.cmpf_def, Ideal.cmp, slt_bins]
  rw [h1, h2, h3]
  by_cases h : s k < s i
  · rw [decide_eq_true h, if_pos (.inl h)]
    have he : decide (s i = s k) = false := decide_eq_false h.ne'
    rw [he]
    cases decide (i < k) <;> rfl
  · rw [decide_eq_false h]
    by_cases he : s i = s k
    · rw [decide_eq_true he, he]
      by_cases hi : i < k
      · rw [decide_eq_true hi, if_pos (.inr ⟨rfl, hi⟩)]
        rfl
      · rw [decide_eq_false hi, if_neg (by rintro (h' | h'); exacts [lt_irrefl _ h', hi h'.2])]
        rfl
    · rw [decide_eq_false he, if_neg (by rintro (h' | h'); exacts [h h', he h'.1])]
      cases decide (i < k) <;> rfl

/-- The search through a list of entries ends at a best one, the first of its value. -/
theorem search (s : Fin 36 → ℝ) : ∀ (l : List (Fin 36)) (i : Fin 36),
    ∃ k, (l.map (entry s)).foldl pick (entry s i) = entry s k ∧ ∀ j, j = i ∨ j ∈ l → s j < s k ∨ (s j = s k ∧ k ≤ j) := by
  intro l
  induction l with
  | nil => exact fun i => ⟨i, rfl, fun j hj => by
      rcases hj with rfl | hj
      · exact .inr ⟨rfl, le_rfl⟩
      · exact nomatch hj⟩
  | cons a l ih =>
    intro i
    simp only [List.map_cons, List.foldl_cons]
    rw [pick_entry]
    split
    · rename_i h
      obtain ⟨k, hk, hb⟩ := ih i
      refine ⟨k, hk, fun j hj => ?_⟩
      rcases hj with rfl | hj
      · exact hb _ (.inl rfl)
      · rcases List.mem_cons.1 hj with rfl | hj
        · rcases hb i (.inl rfl) with h' | h' <;> rcases h with h | h
          · exact .inl (h.trans h')
          · exact .inl (h.1 ▸ h')
          · exact .inl (h'.1 ▸ h)
          · exact .inr ⟨h.1.symm.trans h'.1, h'.2.trans h.2.le⟩
        · exact hb _ (.inr hj)
    · rename_i h
      push Not at h
      obtain ⟨k, hk, hb⟩ := ih a
      refine ⟨k, hk, fun j hj => ?_⟩
      rcases hj with rfl | hj
      · rcases h.1.lt_or_eq with h1 | h1
        · rcases hb a (.inl rfl) with h' | h'
          · exact .inl (h1.trans h')
          · exact .inl (h'.1 ▸ h1)
        · have h2 := h.2 h1
          rcases hb a (.inl rfl) with h' | h'
          · exact .inl (h1 ▸ h')
          · exact .inr ⟨h1.trans h'.1, h'.2.trans h2⟩
      · rcases List.mem_cons.1 hj with rfl | hj
        · exact hb _ (.inl rfl)
        · exact hb _ (.inr hj)

/-- A search through all bins ends at the first greatest. -/
theorem search_all (s : Fin 36 → ℝ) (l : List (Fin 36)) (hl : ∀ k, k ∈ l) :
    ∃ k, IsFirstMax s k ∧ (l.map (entry s)).foldl pick ((⊥ : EReal), 0#32) = entry s k := by
  match l, hl with
  | [], hl => exact nomatch hl 0
  | a :: l, hl =>
    simp only [List.map_cons, List.foldl_cons, pick_start]
    obtain ⟨k, hk, hb⟩ := search s l a
    refine ⟨k, ⟨fun i => ?_, fun i hi => ?_⟩, hk⟩
    · rcases hb i (List.mem_cons.1 (hl i)) with h | h
      · exact h.le
      · exact h.1.le
    · rcases hb i (List.mem_cons.1 (hl i)) with h | h
      · exact absurd hi (not_le.2 h)
      · exact h.2

/-- What an index of the table reduces to: its row. -/
theorem drop_row (r : Fin 65536) (k : Fin 36) : reducesTo_S65536x36_S65536_d1.drop (ix2 r k) = ix1 r := by
  funext i
  match i with
  | ⟨0, _⟩ => rfl

/-- The bin of a position of the table. -/
def column (n : Fin (S65536x36).numel) : Fin 36 := (S65536x36).rowMajor.symm n 1

/-- The bins of the positions of row `r`, in the order the search visits them. -/
def columns (r : Fin 65536) : List (Fin 36) :=
  ((List.finRange (S65536x36).numel).filter fun n =>
    reducesTo_S65536x36_S65536_d1.drop ((S65536x36).rowMajor.symm n) = ix1 r).map column

/-- Every bin is among them. -/
theorem mem_columns (r : Fin 65536) (k : Fin 36) : k ∈ columns r := by
  unfold columns
  refine List.mem_map.2 ⟨(S65536x36).rowMajor (ix2 r k), List.mem_filter.2 ⟨List.mem_finRange _, ?_⟩, ?_⟩
  · rw [Equiv.symm_apply_apply, drop_row]
    exact decide_eq_true rfl
  · unfold column
    rw [Equiv.symm_apply_apply]
    rfl

/-- What the search of row `r` folds over. -/
theorem fiber_eq (x : FVec Ideal S65536x36 .f32) (r : Fin 65536) (s : Fin 36 → ℝ) (hx : ∀ k, x (ix2 r k) = (s k : EReal)) :
    Host.argReduceFiber x (iotaInDim S65536x36 32 1) reducesTo_S65536x36_S65536_d1 (ix1 r) = (columns r).map (entry s) := by
  unfold Host.argReduceFiber columns
  refine Eq.trans (List.map_congr_left fun n hn => ?_) (List.map_map).symm
  have hr : reducesTo_S65536x36_S65536_d1.drop ((S65536x36).rowMajor.symm n) = ix1 r := by simpa using (List.mem_filter.1 hn).2
  show _ = entry s (column n)
  unfold column
  generalize (S65536x36).rowMajor.symm n = i at hr
  obtain ⟨a, k, rfl⟩ : ∃ (a : Fin 65536) (k : Fin 36), i = ix2 a k := ⟨_, _, eq_ix2 i⟩
  rw [drop_row, ix1_inj] at hr
  subst hr
  exact Prod.ext (hx k) rfl

/-- The reference's search of a row for its greatest entry. -/
theorem argReduce_at (x : FVec Ideal S65536x36 .f32) (r : Fin 65536) (s : Fin 36 → ℝ)
    (hx : ∀ k, x (ix2 r k) = (s k : EReal)) :
    ∃ k, IsFirstMax s k ∧ (Host.argReduce (F := Ideal) (φ := .f32) reducer_argmax_f32_i32 x (iotaInDim S65536x36 32 1)
      (constant S_ .f32 0xFF800000#32) (constantI S_ 32 0#32) reducesTo_S65536x36_S65536_d1 h_S_ (ix1 r)).2 = BitVec.ofNat 32 k.val := by
  rw [Ideal.argReduce_eq_reduce2, Host.reduce2_eq_foldl_fiber, fiber_eq x r s hx]
  have hbot : (constant (F := Ideal) S_ .f32 0xFF800000#32 (Shape.Idx.first h_S_) : EReal) = ⊥ := by
    show Ideal.ofBits .f32 0xFF800000#32 = ⊥
    simp [Ideal.ofBits, Ideal.ieee]
  obtain ⟨k, hk, he⟩ := search_all s _ (mem_columns r)
  refine ⟨k, hk, ?_⟩
  rw [hbot]
  exact congrArg Prod.snd he

/-- The number of the first greatest bin, read at a patch. -/
theorem ref_pick (V : Valuation τ sig (Elt Ideal)) (r : Fin 65536) (s : Fin 36 → ℝ)
    (hs : ∀ k, V (Proc.devRef .tc main_v143) (ix2 r k) = (s k : EReal)) :
    ∃ k, IsFirstMax s k ∧ after ((refOps.drop 248).take 5) V (Proc.devRef .tc main_v144) (ix1 r) = BitVec.ofNat 32 k.val := by
  obtain ⟨k, hk, he⟩ := argReduce_at (V (Proc.devRef .tc main_v143)) r s hs
  refine ⟨k, hk, ?_⟩
  after_reads_at
  exact he

/-- The angle of a bin. -/
theorem ref_angle (V : Valuation τ sig (Elt Ideal)) (t r : Fin 256) (k : Fin 36)
    (hk : V (Proc.devRef .tc main_v144) (ix1 ⟨t.val * 256 + r.val, by omega⟩) = BitVec.ofNat 32 k.val) :
    after ((refOps.drop 253).take 9) V (Proc.devRef .tc main_v151) (ix3 t r 0) = ((angleOf k : ℝ) : EReal) := by
  after_reads_at
  rw [hk, word_pi, ofBits_eq_lit _ (by decide)]
  have hi : (FloatOps.sitofp .f32 (BitVec.ofNat 32 k.val) : Ideal .f32) = ((k.val : ℝ) : EReal) := by
    show (((BitVec.ofNat 32 k.val).toInt : ℝ) : EReal) = _
    rw [WordCmp.toInt_ofNat_of_lt (by omega)]
    norm_num
  rw [hi, ← EReal.coe_mul, ← EReal.coe_sub, ← EReal.coe_neg]
  congr 1
  unfold angleOf
  ring

end Cert.Dominant

end
-- ==== Proof.RefValue.lean ====
/- The reference's operations one after another, read at a patch: its result is the angle of the first greatest bin. -/
module

public import proofs.«01_k».proof.Proof.RefPad
public import proofs.«01_k».proof.Proof.RefGrad
public import proofs.«01_k».proof.Proof.RefHist
public import proofs.«01_k».proof.Proof.RefSmooth
public import proofs.«01_k».proof.Proof.RefPick

@[expose] public section

open Cert.ReferenceIdeal Cert.ReferenceIdeal.Gen Idealize.ShloMosaic Idealize.ShloMosaic.StableHlo

noncomputable section

namespace Cert.Dominant

/-! ## What a run of operations leaves as it was -/

/-- The first remainder leaves the magnitudes. -/
theorem keep_mag_bin (V : Valuation τ sig (Elt Ideal)) :
    after ((refOps.drop 133).take 19) V (Proc.devRef .tc main_v72) = V (Proc.devRef .tc main_v72) := by after_reads_simp

/-- The first remainder leaves the fractional parts. -/
theorem keep_frac_bin (V : Valuation τ sig (Elt Ideal)) :
    after ((refOps.drop 133).take 19) V (Proc.devRef .tc main_v85) = V (Proc.devRef .tc main_v85) := by after_reads_simp

/-- The second remainder leaves the magnitudes. -/
theorem keep_mag_next (V : Valuation τ sig (Elt Ideal)) :
    after ((refOps.drop 152).take 25) V (Proc.devRef .tc main_v72) = V (Proc.devRef .tc main_v72) := by after_reads_simp

/-- The second remainder leaves the fractional parts. -/
theorem keep_frac_next (V : Valuation τ sig (Elt Ideal)) :
    after ((refOps.drop 152).take 25) V (Proc.devRef .tc main_v85) = V (Proc.devRef .tc main_v85) := by after_reads_simp

/-- The second remainder leaves the bins. -/
theorem keep_bin_next (V : Valuation τ sig (Elt Ideal)) :
    after ((refOps.drop 152).take 25) V (Proc.devRef .tc main_v87) = V (Proc.devRef .tc main_v87) := by after_reads_simp

/-- The weights' operations leave the bins. -/
theorem keep_bin_weights (V : Valuation τ sig (Elt Ideal)) :
    after ((refOps.drop 177).take 5) V (Proc.devRef .tc main_v87) = V (Proc.devRef .tc main_v87) := by after_reads_simp

/-- The weights' operations leave the next bins. -/
theorem keep_next_weights (V : Valuation τ sig (Elt Ideal)) :
    after ((refOps.drop 177).take 5) V (Proc.devRef .tc main_v90) = V (Proc.devRef .tc main_v90) := by after_reads_simp

/-- The set-up of the first scatter leaves the next bins. -/
theorem keep_next_lower (V : Valuation τ sig (Elt Ideal)) :
    after ((refOps.drop 182).take 24) V (Proc.devRef .tc main_v90) = V (Proc.devRef .tc main_v90) := by after_reads_simp

/-- The set-up of the first scatter leaves the upper weights. -/
theorem keep_wUp_lower (V : Valuation τ sig (Elt Ideal)) :
    after ((refOps.drop 182).take 24) V (Proc.devRef .tc main_v94) = V (Proc.devRef .tc main_v94) := by after_reads_simp

/-- The first scatter leaves the next bins. -/
theorem keep_next_scatter (V : Valuation τ sig (Elt Ideal)) :
    after ((refOps.drop 206).take 1) V (Proc.devRef .tc main_v90) = V (Proc.devRef .tc main_v90) := by after_reads_simp

/-- The first scatter leaves the upper weights. -/
theorem keep_wUp_scatter (V : Valuation τ sig (Elt Ideal)) :
    after ((refOps.drop 206).take 1) V (Proc.devRef .tc main_v94) = V (Proc.devRef .tc main_v94) := by after_reads_simp

/-- The first scatter leaves the row numbers. -/
theorem keep_rows_scatter (V : Valuation τ sig (Elt Ideal)) :
    after ((refOps.drop 206).take 1) V (Proc.devRef .tc main_v96) = V (Proc.devRef .tc main_v96) := by after_reads_simp

/-- The set-up of the second scatter leaves the first one's result. -/
theorem keep_lower_upper (V : Valuation τ sig (Elt Ideal)) :
    after ((refOps.drop 207).take 20) V (Proc.devRef .tc main_v114) = V (Proc.devRef .tc main_v114) := by after_reads_simp

/-- The histogram's roll forwards leaves the histogram. -/
theorem keep_mean_before (V : Valuation τ sig (Elt Ideal)) :
    after ((refOps.drop 231).take 2) V (Proc.devRef .tc main_v133) = V (Proc.devRef .tc main_v133) := by after_reads_simp

/-- The sum of the first two smoothing terms leaves the histogram. -/
theorem keep_mean_sum (V : Valuation τ sig (Elt Ideal)) :
    after ((refOps.drop 233).take 8) V (Proc.devRef .tc main_v133) = V (Proc.devRef .tc main_v133) := by after_reads_simp

/-- The histogram's roll backwards leaves the sum of the first two smoothing terms. -/
theorem keep_sum_after (V : Valuation τ sig (Elt Ideal)) :
    after ((refOps.drop 241).take 2) V (Proc.devRef .tc main_v139) = V (Proc.devRef .tc main_v139) := by after_reads_simp

/-! ## The stages -/

section Stages

variable (V : Valuation τ sig (Elt Ideal)) (p : ℕ → ℕ → ℕ → ℝ)
  (hp : ∀ (r : Fin 65536) (a c : Fin 32), V (Proc.devRef .tc main_arg0) (ix4 r 0 a c) = ((p r a c : ℝ) : EReal))

include hp

/-- After the padding. -/
theorem stage_pad (r : Fin 65536) (a c : Fin 34) :
    upto refOps V 23 (Proc.devRef .tc main_v1) (ix3 r a c) = ((padded (p r) a c : ℝ) : EReal) := by
  have he : ∀ i : ℕ, (Fin.ofNat 32 (edge i)).val = edge i := fun i => Nat.mod_eq_of_lt (by unfold edge; omega)
  rw [pad2, hp, he, he]
  rfl

/-- After the nine shifted products: the horizontal gradients. -/
theorem stage_gradX (r : Fin 65536) (a c : Fin 32) :
    upto refOps V 108 (Proc.devRef .tc main_v63) (ix3 r a c) = ((gradX (p r) a c : ℝ) : EReal) := by
  rw [show 108 = 23 + 85 from rfl, upto_add]
  exact ref_gradX _ p (stage_pad V p hp) r a c

/-- After the nine shifted products: the vertical gradients. -/
theorem stage_gradY (r : Fin 65536) (a c : Fin 32) :
    upto refOps V 108 (Proc.devRef .tc main_v66) (ix3 r a c) = ((gradY (p r) a c : ℝ) : EReal) := by
  rw [show 108 = 23 + 85 from rfl, upto_add]
  exact ref_gradY _ p (stage_pad V p hp) r a c

/-- The magnitudes, when the weights are computed. -/
theorem stage_mag (r : Fin 65536) (a c : Fin 32) :
    upto refOps V 177 (Proc.devRef .tc main_v72) (ix3 r a c) = ((mag (gradX (p r) a c) (gradY (p r) a c) : ℝ) : EReal) := by
  rw [show 177 = 152 + 25 from rfl, upto_add, keep_mag_next, show 152 = 133 + 19 from rfl, upto_add, keep_mag_bin,
    show 133 = 108 + 25 from rfl, upto_add]
  exact ref_mag _ r a c _ _ (stage_gradX V p hp r a c) (stage_gradY V p hp r a c)

/-- The fractional parts, when the weights are computed. -/
theorem stage_frac (r : Fin 65536) (a c : Fin 32) :
    upto refOps V 177 (Proc.devRef .tc main_v85) (ix3 r a c) = ((frac (gradX (p r) a c) (gradY (p r) a c) : ℝ) : EReal) := by
  rw [show 177 = 152 + 25 from rfl, upto_add, keep_frac_next, show 152 = 133 + 19 from rfl, upto_add, keep_frac_bin,
    show 133 = 108 + 25 from rfl, upto_add]
  exact ref_frac _ r a c _ _ (stage_gradX V p hp r a c) (stage_gradY V p hp r a c)

/-- After the first remainder: the bin of every pixel. -/
theorem stage_bin (r : Fin 65536) (a c : Fin 32) :
    upto refOps V 152 (Proc.devRef .tc main_v87) (ix3 r a c) = BitVec.ofNat 32 (bin (gradX (p r) a c) (gradY (p r) a c)).val := by
  rw [show 152 = 133 + 19 from rfl, upto_add]
  refine ref_bin _ r a c _ _ ?_
  rw [show 133 = 108 + 25 from rfl, upto_add]
  exact ref_floor _ r a c _ _ (stage_gradX V p hp r a c) (stage_gradY V p hp r a c)

/-- The bins, when the first scatter is set up. -/
theorem stage_bin_kept (r : Fin 65536) (a c : Fin 32) :
    upto refOps V 182 (Proc.devRef .tc main_v87) (ix3 r a c) = BitVec.ofNat 32 (bin (gradX (p r) a c) (gradY (p r) a c)).val := by
  rw [show 182 = 177 + 5 from rfl, upto_add, keep_bin_weights, show 177 = 152 + 25 from rfl, upto_add, keep_bin_next]
  exact stage_bin V p hp r a c

/-- After the second remainder: the next bin of every pixel. -/
theorem stage_next (r : Fin 65536) (a c : Fin 32) :
    upto refOps V 207 (Proc.devRef .tc main_v90) (ix3 r a c)
      = BitVec.ofNat 32 (bin (gradX (p r) a c) (gradY (p r) a c) + 1).val := by
  rw [show 207 = 206 + 1 from rfl, upto_add, keep_next_scatter, show 206 = 182 + 24 from rfl, upto_add, keep_next_lower,
    show 182 = 177 + 5 from rfl, upto_add, keep_next_weights, show 177 = 152 + 25 from rfl, upto_add]
  exact ref_next _ r a c _ (stage_bin V p hp r a c)

/-- The lower weights, when the first scatter is set up. -/
theorem stage_wLo (r : Fin 65536) (a c : Fin 32) :
    upto refOps V 182 (Proc.devRef .tc main_v93) (ix3 r a c) = ((wLo (gradX (p r) a c) (gradY (p r) a c) : ℝ) : EReal) := by
  rw [show 182 = 177 + 5 from rfl, upto_add]
  exact ref_wLo _ r a c _ _ (stage_frac V p hp r a c) (stage_mag V p hp r a c)

/-- The upper weights, when the second scatter is set up. -/
theorem stage_wUp (r : Fin 65536) (a c : Fin 32) :
    upto refOps V 207 (Proc.devRef .tc main_v94) (ix3 r a c) = ((wUp (gradX (p r) a c) (gradY (p r) a c) : ℝ) : EReal) := by
  rw [show 207 = 206 + 1 from rfl, upto_add, keep_wUp_scatter, show 206 = 182 + 24 from rfl, upto_add, keep_wUp_lower,
    show 182 = 177 + 5 from rfl, upto_add]
  exact ref_wUp _ r a c _ _ (stage_frac V p hp r a c) (stage_mag V p hp r a c)

omit hp in
/-- The row numbers, when the second scatter is set up. -/
theorem stage_rows (r : Fin 65536) : upto refOps V 207 (Proc.devRef .tc main_v96) (ix2 r 0) = BitVec.ofNat 32 r.val := by
  rw [show 207 = 206 + 1 from rfl, upto_add, keep_rows_scatter, show 206 = 182 + 24 from rfl, upto_add]
  exact rows_at _ r

/-- After the first scatter: the shares that stay in their bins. -/
theorem stage_lower (r : Fin 65536) (k : Fin 36) :
    upto refOps V 207 (Proc.devRef .tc main_v114) (ix2 r k)
      = ((∑ q : Fin 1024, if bin (gradX (p r) (q / 32) (q % 32)) (gradY (p r) (q / 32) (q % 32)) = k
          then wLo (gradX (p r) (q / 32) (q % 32)) (gradY (p r) (q / 32) (q % 32)) else 0 : ℝ) : EReal) := by
  rw [show 207 = 206 + 1 from rfl, upto_add, lower_at, show 206 = 182 + 24 from rfl, upto_add,
    scatter_at _ _ _ r k (fun q => bin (gradX (p r) (q / 32) (q % 32)) (gradY (p r) (q / 32) (q % 32)))
      (fun s q => lower_row _ s q) (fun q => lower_bin _ r q _ (stage_bin_kept V p hp r ⟨q / 32, by omega⟩ ⟨q % 32, by omega⟩)),
    lower_zero, zero_add, coe_sum]
  refine congrArg (fun f : Fin 1024 → EReal => ∑ q, f q) (funext fun q => ?_)
  rw [lower_upd, stage_wLo V p hp]
  split <;> simp

/-- After the second scatter: the histogram. -/
theorem stage_histogram (r : Fin 65536) (k : Fin 36) :
    upto refOps V 228 (Proc.devRef .tc main_v131) (ix2 r k) = ((histogram (p r) k : ℝ) : EReal) := by
  rw [show 228 = 227 + 1 from rfl, upto_add, upper_at, show 227 = 207 + 20 from rfl, upto_add,
    scatter_at _ _ _ r k (fun q => bin (gradX (p r) (q / 32) (q % 32)) (gradY (p r) (q / 32) (q % 32)) + 1)
      (fun s q => upper_row _ s q (stage_rows V s)) (fun q => upper_bin _ r q _ (stage_next V p hp r ⟨q / 32, by omega⟩ ⟨q % 32, by omega⟩)),
    keep_lower_upper, stage_lower V p hp]
  unfold histogram
  rw [EReal.coe_add]
  refine congrArg (fun z : EReal => _ + z) ?_
  rw [coe_sum]
  refine Finset.sum_congr rfl fun q _ => ?_
  rw [upper_upd, stage_wUp V p hp]
  simp only [← eq_sub_iff_add_eq]
  split <;> simp

/-- After the division by the number of pixels: the mean over the pixels. -/
theorem stage_mean (r : Fin 65536) (k : Fin 36) :
    upto refOps V 231 (Proc.devRef .tc main_v133) (ix2 r k) = ((1 / 1024 * histogram (p r) k : ℝ) : EReal) := by
  rw [show 231 = 228 + 3 from rfl, upto_add]
  exact mean_at _ r k _ (stage_histogram V p hp r k)

/-- The mean, after the roll forwards. -/
theorem stage_mean_kept (r : Fin 65536) (k : Fin 36) :
    upto refOps V 233 (Proc.devRef .tc main_v133) (ix2 r k) = ((1 / 1024 * histogram (p r) k : ℝ) : EReal) := by
  rw [show 233 = 231 + 2 from rfl, upto_add, keep_mean_before]
  exact stage_mean V p hp r k

/-- The mean, after the first two smoothing terms are added. -/
theorem stage_mean_late (r : Fin 65536) (k : Fin 36) :
    upto refOps V 241 (Proc.devRef .tc main_v133) (ix2 r k) = ((1 / 1024 * histogram (p r) k : ℝ) : EReal) := by
  rw [show 241 = 233 + 8 from rfl, upto_add, keep_mean_sum]
  exact stage_mean_kept V p hp r k

/-- The sum of the first two smoothing terms. -/
theorem stage_half (r : Fin 65536) (k : Fin 36) :
    upto refOps V 241 (Proc.devRef .tc main_v139) (ix2 r k)
      = ((lit 0x3EA8F5C3#32 * (1 / 1024 * histogram (p r) (k - 1)) + lit 0x3EAE147B#32 * (1 / 1024 * histogram (p r) k) : ℝ) : EReal) := by
  rw [show 241 = 233 + 8 from rfl, upto_add]
  refine lower_sum _ r k (fun k => 1 / 1024 * histogram (p r) k) (stage_mean_kept V p hp r k) ?_ fun j => ?_
  · rw [show 233 = 231 + 2 from rfl, upto_add, before_first]
    exact stage_mean V p hp r 35
  · rw [show 233 = 231 + 2 from rfl, upto_add, before_others]
    exact stage_mean V p hp r j.castSucc

/-- After the smoothing, which divides by the number of pixels. -/
theorem stage_smoothed (r : Fin 65536) (k : Fin 36) :
    upto refOps V 248 (Proc.devRef .tc main_v143) (ix2 r k) = ((1 / 1024 * smoothed (histogram (p r)) k : ℝ) : EReal) := by
  rw [show 248 = 243 + 5 from rfl, upto_add]
  refine (whole_sum _ r k (fun k => 1 / 1024 * histogram (p r) k) (lit 0x3EA8F5C3#32 * (1 / 1024 * histogram (p r) (k - 1))
    + lit 0x3EAE147B#32 * (1 / 1024 * histogram (p r) k)) ?_ ?_ fun j => ?_).trans ?_
  · rw [show 243 = 241 + 2 from rfl, upto_add, keep_sum_after]
    exact stage_half V p hp r k
  · rw [show 243 = 241 + 2 from rfl, upto_add, after_last]
    exact stage_mean_late V p hp r 0
  · rw [show 243 = 241 + 2 from rfl, upto_add, after_others]
    exact stage_mean_late V p hp r j.succ
  · congr 1
    unfold smoothed
    ring

/-- The reference's result at patch `256 t + r`. -/
theorem stage_angle (t r : Fin 256) :
    ∃ k, IsFirstMax (smoothed (histogram (p (t * 256 + r)))) k
      ∧ upto refOps V 262 (Proc.devRef .tc main_v151) (ix3 t r 0) = ((angleOf k : ℝ) : EReal) := by
  obtain ⟨k, hk, he⟩ := ref_pick (upto refOps V 248) ⟨t.val * 256 + r.val, by omega⟩ _ (stage_smoothed V p hp ⟨t.val * 256 + r.val, by omega⟩)
  refine ⟨k, hk.of_scaled (by norm_num), ?_⟩
  rw [show 262 = 253 + 9 from rfl, upto_add]
  refine ref_angle _ t r k ?_
  rw [show 253 = 248 + 5 from rfl, upto_add]
  exact he

end Stages

/-- All operations are the first 262. -/
theorem upto_all (V : Valuation τ sig (Elt Ideal)) : upto refOps V 262 = after refOps V := by
  unfold upto
  congr 1

end Cert.Dominant

end
-- ==== Proof.RefRun.lean ====
/- The reference's run: it ends with its operations' results in its buffers and its argument as it was. -/
module

public import proofs.«01_k».proof.Proof.RefValue
public import Idealize.ShloMosaic.Lib.Claim
public import Idealize.ShloMosaic.Lib.Quiescent

@[expose] public section

open Cert.ReferenceIdeal Cert.ReferenceIdeal.Gen Idealize.ShloMosaic Idealize.ShloMosaic.StableHlo Idealize.SL.Sem

noncomputable section

namespace Cert.Dominant

/-- The reference runs to what its operations make of the buffers' contents at launch. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after refOps (launchContents m d) (Proc.devRef .tc b) :=
  run_hlo _ _ refLine.2 (by decide) (by decide) (by unfold refLine; simp)
    (by unfold refLine; intro _ h; (repeat (cases h with | head => rfl | tail _ h => ?_)); exact nomatch h) m ρ

/-- No operation writes the argument. -/
theorem ref_arg (V : Valuation τ sig (Elt Ideal)) : after refOps V (Proc.devRef .tc main_arg0) = V (Proc.devRef .tc main_arg0) := by
  after_reads_simp

end Cert.Dominant

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.KernelValue
public import proofs.«01_k».proof.Proof.RefRun
public import Idealize.ShloMosaic.Adequacy
public import Idealize.ShloMosaic.Init

@[expose] public section

noncomputable section

namespace Cert.Proof

open Idealize.ShloMosaic Idealize.ShloMosaic.StableHlo Idealize.SL.Sem Cert.Dominant

/-- The side condition of the precondition's text. -/
theorem finite_facts : Cert.Pre_finite.Facts where
  bcast_S_S65536x1x32x32 := by decide

/-- The same, found by inference. -/
instance : Cert.Pre_finite.Facts := finite_facts

/-- An extended real whose absolute value is below `⊤` is a real number. -/
theorem real_of_abs_lt (x : EReal) (h : FloatOps.cmpf (F := Ideal) (φ := .f32) .olt (FloatOps.absf (F := Ideal) (φ := .f32) x) (Ideal.ofBits .f32 0x7F800000#32) = 1#1) :
    ∃ v : ℝ, x = (v : EReal) := by
  have htop : Ideal.ofBits .f32 0x7F800000#32 = ⊤ := by simp [Ideal.ofBits, Ideal.ieee]
  rw [htop] at h
  change BitVec.ofBool (decide (max x (-x) < ⊤)) = 1#1 at h
  induction x with
  | bot => simp at h
  | top => simp at h
  | coe v => exact ⟨v, rfl⟩

/-- Every pixel of an argument the precondition admits is a real number. -/
theorem pixels (x : FVec Ideal Cert.Pre_finite.S65536x1x32x32 .f32) (h : Cert.Pre_finite.fn (F := Ideal) x = fun _ => 1#1) :
    ∃ p : ℕ → ℕ → ℕ → ℝ, ∀ (s : Fin 65536) (a b : Fin 32), x (ix4 s 0 a b) = ((p s a b : ℝ) : EReal) := by
  have hv : ∀ i, ∃ v : ℝ, x i = (v : EReal) := fun i => real_of_abs_lt (x i) (congrFun h i)
  choose v hv using hv
  refine ⟨fun s a b => v (ix4 (Fin.ofNat 65536 s) 0 (Fin.ofNat 32 a) (Fin.ofNat 32 b)), fun s a b => ?_⟩
  rw [hv]
  simp [Fin.ofNat, Nat.mod_eq_of_lt]

/-- The kernel runs and leaves its argument alone. -/
theorem frame_kernel : Cert.quiescent_Kernel (hKernel := Cert.Kernel.Gen.facts) := fun m ρ _ => Cert.Kernel.Gen.frame m ρ

/-- So does its reading over the extended reals. -/
theorem frame_ideal : Cert.quiescent_KernelIdeal (hKernelIdeal := Cert.KernelIdeal.Gen.facts) :=
  fun m ρ _ => Cert.KernelIdeal.Gen.frame m ρ

/-- So does the reading over the extended reals, on the arguments the precondition admits. -/
theorem frame_ideal_finite : Cert.quiescent_KernelIdeal_pre_finite (hKernelIdeal := Cert.KernelIdeal.Gen.facts) (hPre_finite := finite_facts) :=
  fun m ρ _ => Cert.KernelIdeal.Gen.frame m ρ

/-- So does the reference. -/
theorem frame_reference : Cert.quiescent_ReferenceIdeal (hReferenceIdeal := Cert.ReferenceIdeal.Gen.facts) := fun m ρ _ =>
  (θ_run Cert.ReferenceIdeal.defs _ _).mono
    (fun r h => ⟨fun c => (h c Cert.ReferenceIdeal.main_arg0).trans (ref_arg _), sem_eq_zero_of_no_sems (by decide) r.2⟩)
    (ref_run m ρ)

/-- So does the reference, on the arguments the precondition admits. -/
theorem frame_reference_finite :
    Cert.quiescent_ReferenceIdeal_pre_finite (hReferenceIdeal := Cert.ReferenceIdeal.Gen.facts) (hPre_finite := finite_facts) :=
  fun m ρ _ => frame_reference m ρ trivial

/-- For real pixels both end with the same result: at each patch the angle of the first greatest bin. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m ρ m' ρ' hpre hagree
  refine ⟨fun c => (Cert.KernelIdeal.Gen.dats m 0 c).arrAt 1 Cert.KernelIdeal.cfg0.N, Cert.KernelIdeal.Value.run_blocks m ρ, ?_⟩
  refine (θ_run Cert.ReferenceIdeal.defs _ _).mono
    (fun r h c => ⟨(h c Cert.ReferenceIdeal.main_v151).trans ?_, (h c Cert.ReferenceIdeal.main_arg0).trans (ref_arg _)⟩) (ref_run m' ρ')
  obtain ⟨p, hp⟩ := pixels _ (hpre c)
  funext i
  obtain ⟨t, q, z, rfl⟩ : ∃ (t q : Fin 256) (z : Fin 1), i = ix3 t q z := ⟨_, _, _, eq_ix3 i⟩
  obtain rfl : z = 0 := Subsingleton.elim _ _
  obtain ⟨k, hk, e⟩ := kernel_angle m c p hp t q
  obtain ⟨k', hk', e'⟩ := stage_angle (launchContents m' c) p (fun s a b => (congrFun (hagree c) _).trans (hp s a b)) t q
  rw [upto_all] at e'
  rw [e', hk'.unique hk]
  exact e.symm

/-- All the claims together. -/
theorem claim : Cert.Claim := ⟨Cert.Kernel.Gen.facts, Cert.KernelIdeal.Gen.facts, Cert.ReferenceIdeal.Gen.facts, finite_facts,
  frame_kernel, frame_ideal, frame_ideal_finite, frame_reference, frame_reference_finite, trivial, algebraic⟩

end Cert.Proof

end
